-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S6x512x2048 : Shape := ⟨3, ![6, 512, 2048]⟩
abbrev S2x512x2048 : Shape := ⟨3, ![2, 512, 2048]⟩
abbrev S8x128 : Shape := ⟨2, ![8, 128]⟩
abbrev S8 : Shape := ⟨1, ![8]⟩
abbrev S6 : Shape := ⟨1, ![6]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S512x2048 : Shape := ⟨2, ![512, 2048]⟩
abbrev S1x1x1 : Shape := ⟨3, ![1, 1, 1]⟩
abbrev S128 : Shape := ⟨1, ![128]⟩
abbrev S1x128 : Shape := ⟨2, ![1, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x8192, .f32⟩
  | .hbm, ⟨2, _⟩ => ⟨S512x8192, .f32⟩
  | .local _ .vmem, ⟨0, _⟩ => ⟨S4096x512, .bf16⟩
  | .local _ .vmem, ⟨1, _⟩ => ⟨S512x8192, .f32⟩
  | .local _ .vmem, ⟨2, _⟩ => ⟨S8x512x512, .bf16⟩
  | .local _ .vmem, ⟨3, _⟩ => ⟨S6x512x2048, .f32⟩
  | .local _ .vmem, ⟨4, _⟩ => ⟨S2x512x2048, .bf16⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  let c0_i32_78 : BitVec 32 := 0#32
  ![v106.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_74 : BitVec 32 := 1#32
  let v107 : BitVec 32 := Scalar.muli v105 c1_i32_74
  let v108 : BitVec 32 := Scalar.addi c0_i32_75 v107
  v108.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v116 : BitVec 32 := Scalar.addi v2 c2_i32_79
  let c8_i32_80 : BitVec 32 := 8#32
  let c0_i32_81 : BitVec 32 := 0#32
  let v117 : BitVec 1 := Scalar.cmpi .eq c8_i32_80 c0_i32_81
  let c1_i32_82 : BitVec 32 := 1#32
  let v118 : BitVec 32 := Scalar.select v117 c1_i32_82 c8_i32_80
  let v119 : BitVec 32 := Scalar.remsi v116 v118
  let c0_i32_84 : BitVec 32 := 0#32
  let v121 : BitVec 1 := Scalar.cmpi .slt v119 c0_i32_84
  let c0_i32_85 : BitVec 32 := 0#32
  let v122 : BitVec 1 := Scalar.cmpi .slt v118 c0_i32_85
  let v123 : BitVec 1 := Scalar.xori v121 v122
  let c0_i32_83 : BitVec 32 := 0#32
  let v120 : BitVec 1 := Scalar.cmpi .ne v119 c0_i32_83
  let v124 : BitVec 1 := Scalar.andi v123 v120
  let v125 : BitVec 32 := Scalar.addi v119 v118
  let v126 : BitVec 32 := Scalar.select v124 v125 v119
  let c1_i32_90 : BitVec 32 := 1#32
  let v128 : BitVec 32 := Scalar.muli v126 c1_i32_90
  let v129 : BitVec 32 := Scalar.addi c0_i32_91 v128
  v129.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v137 : BitVec 32 := Scalar.addi v2 c3_i32_95
  let c8_i32_96 : BitVec 32 := 8#32
  let c0_i32_97 : BitVec 32 := 0#32
  let v138 : BitVec 1 := Scalar.cmpi .eq c8_i32_96 c0_i32_97
  let c1_i32_98 : BitVec 32 := 1#32
  let v139 : BitVec 32 := Scalar.select v138 c1_i32_98 c8_i32_96
  let v140 : BitVec 32 := Scalar.remsi v137 v139
  let c0_i32_100 : BitVec 32 := 0#32
  let v142 : BitVec 1 := Scalar.cmpi .slt v140 c0_i32_100
  let c0_i32_101 : BitVec 32 := 0#32
  let v143 : BitVec 1 := Scalar.cmpi .slt v139 c0_i32_101
  let v144 : BitVec 1 := Scalar.xori v142 v143
  let c0_i32_99 : BitVec 32 := 0#32
  let v141 : BitVec 1 := Scalar.cmpi .ne v140 c0_i32_99
  let v145 : BitVec 1 := Scalar.andi v144 v141
  let v146 : BitVec 32 := Scalar.addi v140 v139
  let v147 : BitVec 32 := Scalar.select v145 v146 v140
  let c1_i32_106 : BitVec 32 := 1#32
  let v149 : BitVec 32 := Scalar.muli v147 c1_i32_106
  let v150 : BitVec 32 := Scalar.addi c0_i32_107 v149
  v150.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v158 : BitVec 32 := Scalar.addi v2 c4_i32_111
  let c8_i32_112 : BitVec 32 := 8#32
  let c0_i32_113 : BitVec 32 := 0#32
  let v159 : BitVec 1 := Scalar.cmpi .eq c8_i32_112 c0_i32_113
  let c1_i32_114 : BitVec 32 := 1#32
  let v160 : BitVec 32 := Scalar.select v159 c1_i32_114 c8_i32_112
  let v161 : BitVec 32 := Scalar.remsi v158 v160
  let c0_i32_116 : BitVec 32 := 0#32
  let v163 : BitVec 1 := Scalar.cmpi .slt v161 c0_i32_116
  let c0_i32_117 : BitVec 32 := 0#32
  let v164 : BitVec 1 := Scalar.cmpi .slt v160 c0_i32_117
  let v165 : BitVec 1 := Scalar.xori v163 v164
  let c0_i32_115 : BitVec 32 := 0#32
  let v162 : BitVec 1 := Scalar.cmpi .ne v161 c0_i32_115
  let v166 : BitVec 1 := Scalar.andi v165 v162
  let v167 : BitVec 32 := Scalar.addi v161 v160
  let v168 : BitVec 32 := Scalar.select v166 v167 v161
  let c1_i32_122 : BitVec 32 := 1#32
  let v170 : BitVec 32 := Scalar.muli v168 c1_i32_122
  let v171 : BitVec 32 := Scalar.addi c0_i32_123 v170
  v171.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_127 : BitVec 32 := 5#32
  let v179 : BitVec 32 := Scalar.addi v2 c5_i32_127
  let c8_i32_128 : BitVec 32 := 8#32
  let c0_i32_129 : BitVec 32 := 0#32
  let v180 : BitVec 1 := Scalar.cmpi .eq c8_i32_128 c0_i32_129
  let c1_i32_130 : BitVec 32 := 1#32
  let v181 : BitVec 32 := Scalar.select v180 c1_i32_130 c8_i32_128
  let v182 : BitVec 32 := Scalar.remsi v179 v181
  let c0_i32_132 : BitVec 32 := 0#32
  let v184 : BitVec 1 := Scalar.cmpi .slt v182 c0_i32_132
  let c0_i32_133 : BitVec 32 := 0#32
  let v185 : BitVec 1 := Scalar.cmpi .slt v181 c0_i32_133
  let v186 : BitVec 1 := Scalar.xori v184 v185
  let c0_i32_131 : BitVec 32 := 0#32
  let v183 : BitVec 1 := Scalar.cmpi .ne v182 c0_i32_131
  let v187 : BitVec 1 := Scalar.andi v186 v183
  let v188 : BitVec 32 := Scalar.addi v182 v181
  let v189 : BitVec 32 := Scalar.select v187 v188 v182
  let c1_i32_138 : BitVec 32 := 1#32
  let v191 : BitVec 32 := Scalar.muli v189 c1_i32_138
  let v192 : BitVec 32 := Scalar.addi c0_i32_139 v191
  v192.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_143 : BitVec 32 := 6#32
  let v200 : BitVec 32 := Scalar.addi v2 c6_i32_143
  let c8_i32_144 : BitVec 32 := 8#32
  let c0_i32_145 : BitVec 32 := 0#32
  let v201 : BitVec 1 := Scalar.cmpi .eq c8_i32_144 c0_i32_145
  let c1_i32_146 : BitVec 32 := 1#32
  let v202 : BitVec 32 := Scalar.select v201 c1_i32_146 c8_i32_144
  let v203 : BitVec 32 := Scalar.remsi v200 v202
  let c0_i32_148 : BitVec 32 := 0#32
  let v205 : BitVec 1 := Scalar.cmpi .slt v203 c0_i32_148
  let c0_i32_149 : BitVec 32 := 0#32
  let v206 : BitVec 1 := Scalar.cmpi .slt v202 c0_i32_149
  let v207 : BitVec 1 := Scalar.xori v205 v206
  let c0_i32_147 : BitVec 32 := 0#32
  let v204 : BitVec 1 := Scalar.cmpi .ne v203 c0_i32_147
  let v208 : BitVec 1 := Scalar.andi v207 v204
  let v209 : BitVec 32 := Scalar.addi v203 v202
  let v210 : BitVec 32 := Scalar.select v208 v209 v203
  let c1_i32_154 : BitVec 32 := 1#32
  let v212 : BitVec 32 := Scalar.muli v210 c1_i32_154
  let v213 : BitVec 32 := Scalar.addi c0_i32_155 v212
  v213.toNat
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v221 : BitVec 32 := Scalar.addi v2 c7_i32_159
  let c8_i32_160 : BitVec 32 := 8#32
  let c0_i32_161 : BitVec 32 := 0#32
  let v222 : BitVec 1 := Scalar.cmpi .eq c8_i32_160 c0_i32_161
  let c1_i32_162 : BitVec 32 := 1#32
  let v223 : BitVec 32 := Scalar.select v222 c1_i32_162 c8_i32_160
  let v224 : BitVec 32 := Scalar.remsi v221 v223
  let c0_i32_164 : BitVec 32 := 0#32
  let v226 : BitVec 1 := Scalar.cmpi .slt v224 c0_i32_164
  let c0_i32_165 : BitVec 32 := 0#32
  let v227 : BitVec 1 := Scalar.cmpi .slt v223 c0_i32_165
  let v228 : BitVec 1 := Scalar.xori v226 v227
  let c0_i32_163 : BitVec 32 := 0#32
  let v225 : BitVec 1 := Scalar.cmpi .ne v224 c0_i32_163
  let v229 : BitVec 1 := Scalar.andi v228 v225
  let v230 : BitVec 32 := Scalar.addi v224 v223
  let v231 : BitVec 32 := Scalar.select v229 v230 v224
  let c1_i32_170 : BitVec 32 := 1#32
  let v233 : BitVec 32 := Scalar.muli v231 c1_i32_170
  let v234 : BitVec 32 := Scalar.addi c0_i32_171 v233
  v234.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_175 : BitVec 32 := 512#32
  let v242 : BitVec 32 := Scalar.muli v2 c512_i32_175
  let v243 : Index := Scalar.indexCast v242
  let c0 : Index := 0#32
  ![v243.toNat, 0]
def k0_off3 (d0 : Dev nD) (c0_i32_179 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v249 : BitVec 32 := Scalar.addi v2 c0_i32_179
  let c8_i32_180 : BitVec 32 := 8#32
  let c0_i32_181 : BitVec 32 := 0#32
  let v250 : BitVec 1 := Scalar.cmpi .eq c8_i32_180 c0_i32_181
  let c1_i32_182 : BitVec 32 := 1#32
  let v251 : BitVec 32 := Scalar.select v250 c1_i32_182 c8_i32_180
  let v252 : BitVec 32 := Scalar.remsi v249 v251
  let c0_i32_184 : BitVec 32 := 0#32
  let v254 : BitVec 1 := Scalar.cmpi .slt v252 c0_i32_184
  let c0_i32_185 : BitVec 32 := 0#32
  let v255 : BitVec 1 := Scalar.cmpi .slt v251 c0_i32_185
  let v256 : BitVec 1 := Scalar.xori v254 v255
  let c0_i32_183 : BitVec 32 := 0#32
  let v253 : BitVec 1 := Scalar.cmpi .ne v252 c0_i32_183
  let v257 : BitVec 1 := Scalar.andi v256 v253
  let v258 : BitVec 32 := Scalar.addi v252 v251
  let v259 : BitVec 32 := Scalar.select v257 v258 v252
  let c512_i32_186 : BitVec 32 := 512#32
  let v260 : BitVec 32 := Scalar.muli v259 c512_i32_186
  let c0_i32_191 : BitVec 32 := 0#32
  ![v260.toNat, 0]
def k0_off4 (d0 : Dev nD) (c0_i32_192 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v266 : BitVec 32 := Scalar.addi v2 c0_i32_192
  let c8_i32_193 : BitVec 32 := 8#32
  let c0_i32_194 : BitVec 32 := 0#32
  let v267 : BitVec 1 := Scalar.cmpi .eq c8_i32_193 c0_i32_194
  let c1_i32_195 : BitVec 32 := 1#32
  let v268 : BitVec 32 := Scalar.select v267 c1_i32_195 c8_i32_193
  let v269 : BitVec 32 := Scalar.remsi v266 v268
  let c0_i32_197 : BitVec 32 := 0#32
  let v271 : BitVec 1 := Scalar.cmpi .slt v269 c0_i32_197
  let c0_i32_198 : BitVec 32 := 0#32
  let v272 : BitVec 1 := Scalar.cmpi .slt v268 c0_i32_198
  let v273 : BitVec 1 := Scalar.xori v271 v272
  let c0_i32_196 : BitVec 32 := 0#32
  let v270 : BitVec 1 := Scalar.cmpi .ne v269 c0_i32_196
  let v274 : BitVec 1 := Scalar.andi v273 v270
  let v275 : BitVec 32 := Scalar.addi v269 v268
  let v276 : BitVec 32 := Scalar.select v274 v275 v269
  let c512_i32_199 : BitVec 32 := 512#32
  let v277 : BitVec 32 := Scalar.muli v276 c512_i32_199
  let c2048_i32 : BitVec 32 := 2048#32
  ![v277.toNat, 2048]
def k0_off5 (d0 : Dev nD) (c0_i32_204 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v283 : BitVec 32 := Scalar.addi v2 c0_i32_204
  let c8_i32_205 : BitVec 32 := 8#32
  let c0_i32_206 : BitVec 32 := 0#32
  let v284 : BitVec 1 := Scalar.cmpi .eq c8_i32_205 c0_i32_206
  let c1_i32_207 : BitVec 32 := 1#32
  let v285 : BitVec 32 := Scalar.select v284 c1_i32_207 c8_i32_205
  let v286 : BitVec 32 := Scalar.remsi v283 v285
  let c0_i32_209 : BitVec 32 := 0#32
  let v288 : BitVec 1 := Scalar.cmpi .slt v286 c0_i32_209
  let c0_i32_210 : BitVec 32 := 0#32
  let v289 : BitVec 1 := Scalar.cmpi .slt v285 c0_i32_210
  let v290 : BitVec 1 := Scalar.xori v288 v289
  let c0_i32_208 : BitVec 32 := 0#32
  let v287 : BitVec 1 := Scalar.cmpi .ne v286 c0_i32_208
  let v291 : BitVec 1 := Scalar.andi v290 v287
  let v292 : BitVec 32 := Scalar.addi v286 v285
  let v293 : BitVec 32 := Scalar.select v291 v292 v286
  let c512_i32_211 : BitVec 32 := 512#32
  let v294 : BitVec 32 := Scalar.muli v293 c512_i32_211
  let c4096_i32 : BitVec 32 := 4096#32
  ![v294.toNat, 4096]
def k0_off6 (d0 : Dev nD) (c0_i32_216 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v300 : BitVec 32 := Scalar.addi v2 c0_i32_216
  let c8_i32_217 : BitVec 32 := 8#32
  let c0_i32_218 : BitVec 32 := 0#32
  let v301 : BitVec 1 := Scalar.cmpi .eq c8_i32_217 c0_i32_218
  let c1_i32_219 : BitVec 32 := 1#32
  let v302 : BitVec 32 := Scalar.select v301 c1_i32_219 c8_i32_217
  let v303 : BitVec 32 := Scalar.remsi v300 v302
  let c0_i32_221 : BitVec 32 := 0#32
  let v305 : BitVec 1 := Scalar.cmpi .slt v303 c0_i32_221
  let c0_i32_222 : BitVec 32 := 0#32
  let v306 : BitVec 1 := Scalar.cmpi .slt v302 c0_i32_222
  let v307 : BitVec 1 := Scalar.xori v305 v306
  let c0_i32_220 : BitVec 32 := 0#32
  let v304 : BitVec 1 := Scalar.cmpi .ne v303 c0_i32_220
  let v308 : BitVec 1 := Scalar.andi v307 v304
  let v309 : BitVec 32 := Scalar.addi v303 v302
  let v310 : BitVec 32 := Scalar.select v308 v309 v303
  let c512_i32_223 : BitVec 32 := 512#32
  let v311 : BitVec 32 := Scalar.muli v310 c512_i32_223
  let c6144_i32 : BitVec 32 := 6144#32
  ![v311.toNat, 6144]
def k0_dev15 (d0 : Dev nD) : Nat :=
  let c0_i32_1670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1660 : BitVec 32 := 1#32
  let v1967 : BitVec 32 := Scalar.addi v2 c1_i32_1660
  let c8_i32_1661 : BitVec 32 := 8#32
  let c0_i32_1662 : BitVec 32 := 0#32
  let v1968 : BitVec 1 := Scalar.cmpi .eq c8_i32_1661 c0_i32_1662
  let c1_i32_1663 : BitVec 32 := 1#32
  let v1969 : BitVec 32 := Scalar.select v1968 c1_i32_1663 c8_i32_1661
  let v1970 : BitVec 32 := Scalar.remsi v1967 v1969
  let c0_i32_1665 : BitVec 32 := 0#32
  let v1972 : BitVec 1 := Scalar.cmpi .slt v1970 c0_i32_1665
  let c0_i32_1666 : BitVec 32 := 0#32
  let v1973 : BitVec 1 := Scalar.cmpi .slt v1969 c0_i32_1666
  let v1974 : BitVec 1 := Scalar.xori v1972 v1973
  let c0_i32_1664 : BitVec 32 := 0#32
  let v1971 : BitVec 1 := Scalar.cmpi .ne v1970 c0_i32_1664
  let v1975 : BitVec 1 := Scalar.andi v1974 v1971
  let v1976 : BitVec 32 := Scalar.addi v1970 v1969
  let v1977 : BitVec 32 := Scalar.select v1975 v1976 v1970
  let c1_i32_1669 : BitVec 32 := 1#32
  let v1978 : BitVec 32 := Scalar.muli v1977 c1_i32_1669
  let v1979 : BitVec 32 := Scalar.addi c0_i32_1670 v1978
  v1979.toNat
def k0_dev16 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1675 : BitVec 32 := 2#32
  let v1986 : BitVec 32 := Scalar.addi v2 c2_i32_1675
  let c8_i32_1676 : BitVec 32 := 8#32
  let c0_i32_1677 : BitVec 32 := 0#32
  let v1987 : BitVec 1 := Scalar.cmpi .eq c8_i32_1676 c0_i32_1677
  let c1_i32_1678 : BitVec 32 := 1#32
  let v1988 : BitVec 32 := Scalar.select v1987 c1_i32_1678 c8_i32_1676
  let v1989 : BitVec 32 := Scalar.remsi v1986 v1988
  let c0_i32_1680 : BitVec 32 := 0#32
  let v1991 : BitVec 1 := Scalar.cmpi .slt v1989 c0_i32_1680
  let c0_i32_1681 : BitVec 32 := 0#32
  let v1992 : BitVec 1 := Scalar.cmpi .slt v1988 c0_i32_1681
  let v1993 : BitVec 1 := Scalar.xori v1991 v1992
  let c0_i32_1679 : BitVec 32 := 0#32
  let v1990 : BitVec 1 := Scalar.cmpi .ne v1989 c0_i32_1679
  let v1994 : BitVec 1 := Scalar.andi v1993 v1990
  let v1995 : BitVec 32 := Scalar.addi v1989 v1988
  let v1996 : BitVec 32 := Scalar.select v1994 v1995 v1989
  let c1_i32_1684 : BitVec 32 := 1#32
  let v1997 : BitVec 32 := Scalar.muli v1996 c1_i32_1684
  let v1998 : BitVec 32 := Scalar.addi c0_i32_1685 v1997
  v1998.toNat
def k0_dev17 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1690 : BitVec 32 := 3#32
  let v2005 : BitVec 32 := Scalar.addi v2 c3_i32_1690
  let c8_i32_1691 : BitVec 32 := 8#32
  let c0_i32_1692 : BitVec 32 := 0#32
  let v2006 : BitVec 1 := Scalar.cmpi .eq c8_i32_1691 c0_i32_1692
  let c1_i32_1693 : BitVec 32 := 1#32
  let v2007 : BitVec 32 := Scalar.select v2006 c1_i32_1693 c8_i32_1691
  let v2008 : BitVec 32 := Scalar.remsi v2005 v2007
  let c0_i32_1695 : BitVec 32 := 0#32
  let v2010 : BitVec 1 := Scalar.cmpi .slt v2008 c0_i32_1695
  let c0_i32_1696 : BitVec 32 := 0#32
  let v2011 : BitVec 1 := Scalar.cmpi .slt v2007 c0_i32_1696
  let v2012 : BitVec 1 := Scalar.xori v2010 v2011
  let c0_i32_1694 : BitVec 32 := 0#32
  let v2009 : BitVec 1 := Scalar.cmpi .ne v2008 c0_i32_1694
  let v2013 : BitVec 1 := Scalar.andi v2012 v2009
  let v2014 : BitVec 32 := Scalar.addi v2008 v2007
  let v2015 : BitVec 32 := Scalar.select v2013 v2014 v2008
  let c1_i32_1699 : BitVec 32 := 1#32
  let v2016 : BitVec 32 := Scalar.muli v2015 c1_i32_1699
  let v2017 : BitVec 32 := Scalar.addi c0_i32_1700 v2016
  v2017.toNat
def k0_dev18 (d0 : Dev nD) : Nat :=
  let c0_i32_1715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1705 : BitVec 32 := 4#32
  let v2024 : BitVec 32 := Scalar.addi v2 c4_i32_1705
  let c8_i32_1706 : BitVec 32 := 8#32
  let c0_i32_1707 : BitVec 32 := 0#32
  let v2025 : BitVec 1 := Scalar.cmpi .eq c8_i32_1706 c0_i32_1707
  let c1_i32_1708 : BitVec 32 := 1#32
  let v2026 : BitVec 32 := Scalar.select v2025 c1_i32_1708 c8_i32_1706
  let v2027 : BitVec 32 := Scalar.remsi v2024 v2026
  let c0_i32_1710 : BitVec 32 := 0#32
  let v2029 : BitVec 1 := Scalar.cmpi .slt v2027 c0_i32_1710
  let c0_i32_1711 : BitVec 32 := 0#32
  let v2030 : BitVec 1 := Scalar.cmpi .slt v2026 c0_i32_1711
  let v2031 : BitVec 1 := Scalar.xori v2029 v2030
  let c0_i32_1709 : BitVec 32 := 0#32
  let v2028 : BitVec 1 := Scalar.cmpi .ne v2027 c0_i32_1709
  let v2032 : BitVec 1 := Scalar.andi v2031 v2028
  let v2033 : BitVec 32 := Scalar.addi v2027 v2026
  let v2034 : BitVec 32 := Scalar.select v2032 v2033 v2027
  let c1_i32_1714 : BitVec 32 := 1#32
  let v2035 : BitVec 32 := Scalar.muli v2034 c1_i32_1714
  let v2036 : BitVec 32 := Scalar.addi c0_i32_1715 v2035
  v2036.toNat
def k0_dev19 (d0 : Dev nD) : Nat :=
  let c0_i32_1730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1720 : BitVec 32 := 5#32
  let v2043 : BitVec 32 := Scalar.addi v2 c5_i32_1720
  let c8_i32_1721 : BitVec 32 := 8#32
  let c0_i32_1722 : BitVec 32 := 0#32
  let v2044 : BitVec 1 := Scalar.cmpi .eq c8_i32_1721 c0_i32_1722
  let c1_i32_1723 : BitVec 32 := 1#32
  let v2045 : BitVec 32 := Scalar.select v2044 c1_i32_1723 c8_i32_1721
  let v2046 : BitVec 32 := Scalar.remsi v2043 v2045
  let c0_i32_1725 : BitVec 32 := 0#32
  let v2048 : BitVec 1 := Scalar.cmpi .slt v2046 c0_i32_1725
  let c0_i32_1726 : BitVec 32 := 0#32
  let v2049 : BitVec 1 := Scalar.cmpi .slt v2045 c0_i32_1726
  let v2050 : BitVec 1 := Scalar.xori v2048 v2049
  let c0_i32_1724 : BitVec 32 := 0#32
  let v2047 : BitVec 1 := Scalar.cmpi .ne v2046 c0_i32_1724
  let v2051 : BitVec 1 := Scalar.andi v2050 v2047
  let v2052 : BitVec 32 := Scalar.addi v2046 v2045
  let v2053 : BitVec 32 := Scalar.select v2051 v2052 v2046
  let c1_i32_1729 : BitVec 32 := 1#32
  let v2054 : BitVec 32 := Scalar.muli v2053 c1_i32_1729
  let v2055 : BitVec 32 := Scalar.addi c0_i32_1730 v2054
  v2055.toNat
def k0_dev20 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1735 : BitVec 32 := 6#32
  let v2062 : BitVec 32 := Scalar.addi v2 c6_i32_1735
  let c8_i32_1736 : BitVec 32 := 8#32
  let c0_i32_1737 : BitVec 32 := 0#32
  let v2063 : BitVec 1 := Scalar.cmpi .eq c8_i32_1736 c0_i32_1737
  let c1_i32_1738 : BitVec 32 := 1#32
  let v2064 : BitVec 32 := Scalar.select v2063 c1_i32_1738 c8_i32_1736
  let v2065 : BitVec 32 := Scalar.remsi v2062 v2064
  let c0_i32_1740 : BitVec 32 := 0#32
  let v2067 : BitVec 1 := Scalar.cmpi .slt v2065 c0_i32_1740
  let c0_i32_1741 : BitVec 32 := 0#32
  let v2068 : BitVec 1 := Scalar.cmpi .slt v2064 c0_i32_1741
  let v2069 : BitVec 1 := Scalar.xori v2067 v2068
  let c0_i32_1739 : BitVec 32 := 0#32
  let v2066 : BitVec 1 := Scalar.cmpi .ne v2065 c0_i32_1739
  let v2070 : BitVec 1 := Scalar.andi v2069 v2066
  let v2071 : BitVec 32 := Scalar.addi v2065 v2064
  let v2072 : BitVec 32 := Scalar.select v2070 v2071 v2065
  let c1_i32_1744 : BitVec 32 := 1#32
  let v2073 : BitVec 32 := Scalar.muli v2072 c1_i32_1744
  let v2074 : BitVec 32 := Scalar.addi c0_i32_1745 v2073
  v2074.toNat
def k0_dev21 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1750 : BitVec 32 := 7#32
  let v2081 : BitVec 32 := Scalar.addi v2 c7_i32_1750
  let c8_i32_1751 : BitVec 32 := 8#32
  let c0_i32_1752 : BitVec 32 := 0#32
  let v2082 : BitVec 1 := Scalar.cmpi .eq c8_i32_1751 c0_i32_1752
  let c1_i32_1753 : BitVec 32 := 1#32
  let v2083 : BitVec 32 := Scalar.select v2082 c1_i32_1753 c8_i32_1751
  let v2084 : BitVec 32 := Scalar.remsi v2081 v2083
  let c0_i32_1755 : BitVec 32 := 0#32
  let v2086 : BitVec 1 := Scalar.cmpi .slt v2084 c0_i32_1755
  let c0_i32_1756 : BitVec 32 := 0#32
  let v2087 : BitVec 1 := Scalar.cmpi .slt v2083 c0_i32_1756
  let v2088 : BitVec 1 := Scalar.xori v2086 v2087
  let c0_i32_1754 : BitVec 32 := 0#32
  let v2085 : BitVec 1 := Scalar.cmpi .ne v2084 c0_i32_1754
  let v2089 : BitVec 1 := Scalar.andi v2088 v2085
  let v2090 : BitVec 32 := Scalar.addi v2084 v2083
  let v2091 : BitVec 32 := Scalar.select v2089 v2090 v2084
  let c1_i32_1759 : BitVec 32 := 1#32
  let v2092 : BitVec 32 := Scalar.muli v2091 c1_i32_1759
  let v2093 : BitVec 32 := Scalar.addi c0_i32_1760 v2092
  v2093.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Run.Steps.lean ====
/- The kernel body as loops over its peers and its steps: the same operations as the printed body, written once for a
   symbolic peer, step, slot and column block, so that each is reasoned about once. -/
module

public import proofs.«01_k».proof.Proof.Gen.KernelIdeal.Skeleton
public import Idealize.ShloMosaic.Lib.Pipeline.Regions

@[expose] public section

noncomputable section

namespace Cert.KernelIdeal.Run

open Cert.KernelIdeal Cert.KernelIdeal.Gen
open Idealize.ShloMosaic Idealize.SL.Sem

variable {F : FTy → Type} [FloatOps F]

/-! ## Where the steps address -/

/-- The device `r + 1` places after `c`, counting round. -/
def peer (c : Dev nD) (r : ℕ) : Dev nD := ⟨(c.val + (r + 1)) % 8, Nat.mod_lt _ (by decide)⟩

theorem off1_eq : ∀ (c : Dev nD) (r : Fin 7), k0_off1 c (BitVec.ofNat 32 (1 + r.val)) = ![512 * (peer c r.val).val, 0] := by
  decide +kernel

/-- The device the `r`-th barrier signal goes to, as the body computes it. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

/-- The device the `r`-th block of rows goes to. -/
def rowDev (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]

/-- The device the `r`-th copy of the largest magnitude goes to. -/
def maxDev (c : Dev nD) : Fin 7 → Dev nD :=
  ![⟨k0_dev15 c, k0_dev15_lt c⟩, ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩, ⟨k0_dev21 c, k0_dev21_lt c⟩]

theorem sigDev_eq : ∀ (c : Dev nD) (r : Fin 7), sigDev c r = peer c r.val := by decide +kernel
theorem rowDev_eq : ∀ (c : Dev nD) (r : Fin 7), rowDev c r = peer c r.val := by decide +kernel
theorem maxDev_eq : ∀ (c : Dev nD) (r : Fin 7), maxDev c r = peer c r.val := by decide +kernel

/-- The slot whose blocks step `i` multiplies: the device's own first, then 7 down to 1, four steps each. -/
def slotOf (i : ℕ) : Fin 8 := ⟨(8 - i / 4) % 8, Nat.mod_lt _ (by decide)⟩

/-- The block of columns step `i` works on. -/
def colOf (i : ℕ) : Fin 4 := ⟨i % 4, Nat.mod_lt _ (by decide)⟩

/-- The buffer step `i`'s weights land in, and the one their narrowed copy goes to. -/
def bufOf (i : ℕ) : Fin 6 := ⟨i % 6, Nat.mod_lt _ (by decide)⟩
def halfOf (i : ℕ) : Fin 2 := ⟨i % 2, Nat.mod_lt _ (by decide)⟩

/-- The offsets of the block of weights at column block `n` that goes with slot `j`, as the body computes them. -/
def wOff (c : Dev nD) (n : Fin 4) (j : Fin 8) : Fin 2 → Nat :=
  (![fun w => k0_off3 c w, fun w => k0_off4 c w, fun w => k0_off5 c w, fun w => k0_off6 c w] : Fin 4 → BitVec 32 → Fin 2 → Nat)
    n (BitVec.ofNat 32 j.val)

/-- The device slot `j` of device `c` receives from. -/
def from_ (c : Dev nD) (j : Fin 8) : Dev nD := ⟨(c.val + j.val) % 8, Nat.mod_lt _ (by decide)⟩

theorem wOff_eq : ∀ (c : Dev nD) (n : Fin 4) (j : Fin 8), wOff c n j = ![512 * (from_ c j).val, 2048 * n.val] := by
  decide +kernel

theorem wOff_inb (c : Dev nD) (n : Fin 4) (j : Fin 8) : ∀ a, wOff c n j a + S512x2048.size a ≤ S4096x8192.size a := by
  rw [wOff_eq]
  have h1 : (from_ c j).val < 8 := (from_ c j).isLt
  have h2 := n.isLt
  intro a
  fin_cases a
  · show 512 * (from_ c j).val + 512 ≤ 4096; omega
  · show 2048 * n.val + 2048 ≤ 8192; omega

theorem slot8_inb : ∀ (j : Fin 8), ∀ a, (![j.val, 0, 0] : Fin 3 → Nat) a + S1x512x512.size a ≤ S8x512x512.size a := by decide +kernel
theorem slot6_inb : ∀ (j : Fin 6), ∀ a, (![j.val, 0, 0] : Fin 3 → Nat) a + S1x512x2048.size a ≤ S6x512x2048.size a := by decide +kernel
theorem slot2_inb : ∀ (j : Fin 2), ∀ a, (![j.val, 0, 0] : Fin 3 → Nat) a + S1x512x2048.size a ≤ S2x512x2048.size a := by decide +kernel
theorem row8_inb : ∀ (j : Fin 8), ∀ a, (![j.val, 0] : Fin 2 → Nat) a + S1x128.size a ≤ S8x128.size a := by decide +kernel
theorem col_inb : ∀ (n : Fin 4), ∀ a, (![0, 2048 * n.val] : Fin 2 → Nat) a + S512x2048.size a ≤ S512x8192.size a := by decide +kernel
theorem sem8_inb : ∀ (j : Fin 8), ∀ a, (![j.val] : Fin 1 → Nat) a + S1.size a ≤ S8.size a := by decide +kernel
theorem sem6_inb : ∀ (j : Fin 6), ∀ a, (![j.val] : Fin 1 → Nat) a + S1.size a ≤ S6.size a := by decide +kernel
theorem slot8_words : ∀ (j : Fin 8), (Rect.unit (s := S8x512x512) ![j.val, 0, 0] S1x512x512.size (slot8_inb j)).WholeWords (EltTy.packing .bf16) := by decide +kernel
theorem slot8_packed : ∀ (j : Fin 8), (Rect.unit (s := S8x512x512) ![j.val, 0, 0] S1x512x512.size (slot8_inb j)).PackedRows (EltTy.packing .bf16) := by decide +kernel
theorem slot2_packed : ∀ (j : Fin 2), (Rect.unit (s := S2x512x2048) ![j.val, 0, 0] S1x512x2048.size (slot2_inb j)).PackedRows (EltTy.packing .bf16) := by decide +kernel

/-! ## A sequence of programs -/

/-- Run `f 0`, `f 1`, …, `f (n - 1)`. -/
def seqF {E : Type → Type} : (n : ℕ) → (Fin n → Prog E PUnit) → Prog E PUnit
  | 0, _ => .ret ⟨⟩
  | n + 1, f => f 0 >>= fun _ => seqF n fun i => f i.succ

/-! ## The steps -/

/-- The programs of a device's core. -/
abbrev TProg (F : FTy → Type) (α : Type) := Prog (TpuEff nD τ sig (Elt F) Λ₀ .tc) α

section
variable (arg0 : Memref sig .tc .vmem S4096x512 .bf16) (harg0 : arg0.IsWhole) (arg1 : Memref sig .tc .hbm S4096x8192 .f32) (harg1 : arg1.IsWhole)
  (arg2 : Memref sig .tc .vmem S512x8192 .f32) (harg2 : arg2.IsWhole) (arg3 : Memref sig .tc .vmem S8x512x512 .bf16) (harg3 : arg3.IsWhole)
  (arg4 : Memref sig .tc .vmem S6x512x2048 .f32) (harg4 : arg4.IsWhole) (arg5 : Memref sig .tc .vmem S2x512x2048 .bf16) (harg5 : arg5.IsWhole)
  (arg6 : Memref sig .tc .vmem S8x128 .f32) (harg6 : arg6.IsWhole) (arg7 arg8 arg9 arg10 : DmaSems sig S8) (arg11 : DmaSems sig S6)

abbrev sem8 (a : DmaSems sig S8) (j : Fin 8) : DmaSem sig := ((a.slice (Rect.unit (s := S8) ![j.val] S1.size (sem8_inb j))).squeeze S_ squeezes_S1_S_).sem
abbrev sem6 (a : DmaSems sig S6) (j : Fin 6) : DmaSem sig := ((a.slice (Rect.unit (s := S6) ![j.val] S1.size (sem6_inb j))).squeeze S_ squeezes_S1_S_).sem

/-- Peer `r` is at distance `r + 1`; the slot of the peer that this device fills is the one at the opposite distance. -/
def there (r : ℕ) : Fin 8 := ⟨(r + 1) % 8, Nat.mod_lt _ (by decide)⟩
def back (r : ℕ) : Fin 8 := ⟨(7 - r) % 8, Nat.mod_lt _ (by decide)⟩

abbrev rectX (c : Dev nD) (r : Fin 7) : Rect S4096x512 := Rect.unit (k0_off1 c (BitVec.ofNat 32 (1 + r.val))) S512x512.size (k0_off1_inb c r)
abbrev rectG (j : Fin 8) : Rect S8x512x512 := Rect.unit ![j.val, 0, 0] S1x512x512.size (slot8_inb j)
abbrev rectW (c : Dev nD) (n : Fin 4) (j : Fin 8) : Rect S4096x8192 := Rect.unit (wOff c n j) S512x2048.size (wOff_inb c n j)
abbrev rectT (j : Fin 6) : Rect S6x512x2048 := Rect.unit ![j.val, 0, 0] S1x512x2048.size (slot6_inb j)
abbrev rectB (j : Fin 2) : Rect S2x512x2048 := Rect.unit ![j.val, 0, 0] S1x512x2048.size (slot2_inb j)
abbrev rectA (j : Fin 8) : Rect S8x128 := Rect.unit ![j.val, 0] S1x128.size (row8_inb j)
abbrev rectO (n : Fin 4) : Rect S512x8192 := Rect.unit ![0, 2048 * n.val] S512x2048.size (col_inb n)

abbrev xPart (c : Dev nD) (r : Fin 7) : Memref sig .tc .vmem S512x512 .bf16 := arg0.slice (rectX c r) (fun _ => rfl)
abbrev gSlot (j : Fin 8) : Memref sig .tc .vmem S512x512 .bf16 :=
  Memref.squeeze (s := S1x512x512) (arg3.slice (rectG j) (fun _ => rfl)) S512x512 squeezes_S1x512x512_S512x512
abbrev wPart (c : Dev nD) (n : Fin 4) (j : Fin 8) : Memref sig .tc .hbm S512x2048 .f32 := arg1.slice (rectW c n j) (fun _ => rfl)
abbrev tSlot (j : Fin 6) : Memref sig .tc .vmem S512x2048 .f32 :=
  Memref.squeeze (s := S1x512x2048) (arg4.slice (rectT j) (fun _ => rfl)) S512x2048 squeezes_S1x512x2048_S512x2048
abbrev aRow (j : Fin 8) : Memref sig .tc .vmem S1x128 .f32 := arg6.slice (rectA j) (fun _ => rfl)

/-- The barrier semaphore. -/
abbrev barrierArr : Sems sig S_ := SemArray.scalar (sig.barrier 0 rfl)

/-- Tell peer `r` that this device has entered. -/
def enter (c : Dev nD) (r : Fin 7) : TProg F PUnit := semSignalWord (sigDev c r) barrierArr.sem 1#32

/-- Send peer `r` the block of rows it computes with. -/
def sendRows (c : Dev nD) (r : Fin 7) : TProg F PUnit :=
  Prog.lift (.enqueueDma (xPart arg0 c r) (.remote (Dev.tc (rowDev c r)) (gSlot arg3 (back r.val)) (.dma (sem8 arg7 (there r.val)))) (.dma (sem8 arg8 (back r.val)))
    (harg0.wordExact_slice rfl _ (k0_off1_wordsbf16 c r)) ((harg3.wordExact_slice rfl _ (slot8_words (back r.val))).reshape _ _) ⟨⟨rfl, Or.inl rfl⟩, trivial⟩)

/-- Keep this device's own block of rows in slot 0. -/
def keepRows (c : Dev nD) : TProg F PUnit := do
  let x : Vec F S512x512 .bf16 ← Prog.lift (.load arg0 (Rect.unit (s := S4096x512) (k0_off2 c) S512x512.size (k0_off2_inb c)).toLoadRect (View.loadsAt_vmem h_S512x512))
  let _y : Vec F S1x512x512 .bf16 ← Prog.lift (.load arg3 (rectG 0).toLoadRect (View.loadsAt_vmem h_S1x512x512))
  Prog.lift (.store arg3 (rectG 0) (k0_pay1 x) Finset.univ (View.stores_vmem h_S1x512x512 (harg3.storeExact_slice rfl _ (slot8_packed 0)) (fun _ => rfl)) (.inl rfl))

/-- Start fetching step `i`'s block of weights. -/
def fetch (c : Dev nD) (i : ℕ) : TProg F PUnit :=
  Prog.lift (.enqueueDma (wPart arg1 c (colOf i) (slotOf i)) (.here (tSlot arg4 (bufOf i))) (.dma (sem6 arg11 (bufOf i)))
    (View.wordExact_bits rfl) ((View.wordExact_bits rfl).reshape _ _) ⟨Or.inl rfl, trivial⟩)

/-- Wait for step `i`'s block of weights and narrow it. -/
def narrow (c : Dev nD) (i : ℕ) : TProg F PUnit := do
  Prog.lift (.waitDma2 (sem6 arg11 (bufOf i)) (wPart arg1 c (colOf i) (slotOf i)) (tSlot arg4 (bufOf i)) (View.wordExact_bits rfl) ((View.wordExact_bits rfl).reshape _ _))
  let x : Vec F S1x512x2048 .f32 ← Prog.lift (.load arg4 (rectT (bufOf i)).toLoadRect (View.loadsAt_vmem h_S1x512x2048))
  let _y : Vec F S1x512x2048 .bf16 ← Prog.lift (.load arg5 (rectB (halfOf i)).toLoadRect (View.loadsAt_vmem h_S1x512x2048))
  Prog.lift (.store arg5 (rectB (halfOf i)) (k0_pay2 x) Finset.univ (View.stores_vmem h_S1x512x2048 (harg5.storeExact_slice rfl _ (slot2_packed (halfOf i))) (fun _ => rfl)) (.inl rfl))

/-- Wait for the rows that land in slot `j`. -/
def awaitRows (j : Fin 8) : TProg F PUnit :=
  Prog.lift (.waitDma2 (sem8 arg8 j) (arg0.slice (Rect.unit (s := S4096x512) ![0, 0] S512x512.size inb_S4096x512_S512x512_0_0) (fun _ => rfl)) (gSlot arg3 j)
    (harg0.wordExact_slice rfl _ wordsbf16_S4096x512_S512x512_0_0) ((harg3.wordExact_slice rfl _ (slot8_words j)).reshape _ _))

/-- The first product into a block of columns. -/
def product (n : Fin 4) (j : Fin 8) (b : Fin 2) : TProg F PUnit := do
  let x : Vec F S1x512x512 .bf16 ← Prog.lift (.load arg3 (rectG j).toLoadRect (View.loadsAt_vmem h_S1x512x512))
  let w : Vec F S1x512x2048 .bf16 ← Prog.lift (.load arg5 (rectB b).toLoadRect (View.loadsAt_vmem h_S1x512x2048))
  let _y : Vec F S512x2048 .f32 ← Prog.lift (.load arg2 (rectO n).toLoadRect (View.loadsAt_vmem h_S512x2048))
  Prog.lift (.store arg2 (rectO n) (k0_pay4 x w) Finset.univ (View.stores_vmem_bits_univ h_S512x2048 rfl) (.inl rfl))

/-- A further product added to what the block of columns holds. -/
def accumulate (n : Fin 4) (j : Fin 8) (b : Fin 2) : TProg F PUnit := do
  let x : Vec F S1x512x512 .bf16 ← Prog.lift (.load arg3 (rectG j).toLoadRect (View.loadsAt_vmem h_S1x512x512))
  let w : Vec F S1x512x2048 .bf16 ← Prog.lift (.load arg5 (rectB b).toLoadRect (View.loadsAt_vmem h_S1x512x2048))
  let o : Vec F S512x2048 .f32 ← Prog.lift (.load arg2 (rectO n).toLoadRect (View.loadsAt_vmem h_S512x2048))
  let _y : Vec F S512x2048 .f32 ← Prog.lift (.load arg2 (rectO n).toLoadRect (View.loadsAt_vmem h_S512x2048))
  Prog.lift (.store arg2 (rectO n) (k0_pay78 x w o) Finset.univ (View.stores_vmem_bits_univ h_S512x2048 rfl) (.inl rfl))

/-- Step `i`: start the fetch five steps ahead, get the next step's weights ready, multiply. -/
def step (c : Dev nD) (i : Fin 32) : TProg F PUnit :=
  (if i.val + 5 < 32 then fetch arg1 arg4 arg11 c (i.val + 5) else pure ⟨⟩) >>= fun _ =>
  (if i.val + 1 < 32 then narrow arg1 arg4 arg5 harg5 arg11 c (i.val + 1) else pure ⟨⟩) >>= fun _ =>
  (if 4 ≤ i.val ∧ i.val % 4 = 0 then awaitRows arg0 harg0 arg3 harg3 arg8 (slotOf i.val) else pure ⟨⟩) >>= fun _ =>
  if i.val < 4 then product arg2 arg3 arg5 (colOf i.val) (slotOf i.val) (halfOf i.val) else accumulate arg2 arg3 arg5 (colOf i.val) (slotOf i.val) (halfOf i.val)

/-- The largest magnitude of this device's rows into row 0. -/
def localMax : TProg F PUnit := do
  let a : Vec F S512x2048 .f32 ← Prog.lift (.load arg2 (rectO 0).toLoadRect (View.loadsAt_vmem h_S512x2048))
  let b : Vec F S512x2048 .f32 ← Prog.lift (.load arg2 (rectO 1).toLoadRect (View.loadsAt_vmem h_S512x2048))
  let c : Vec F S512x2048 .f32 ← Prog.lift (.load arg2 (rectO 2).toLoadRect (View.loadsAt_vmem h_S512x2048))
  let d : Vec F S512x2048 .f32 ← Prog.lift (.load arg2 (rectO 3).toLoadRect (View.loadsAt_vmem h_S512x2048))
  let _y : Vec F S1x128 .f32 ← Prog.lift (.load arg6 (rectA 0).toLoadRect (View.loadsAt_vmem h_S1x128))
  Prog.lift (.store arg6 (rectA 0) (k0_pay80 (k0_pay79 a b) c d) Finset.univ (View.stores_vmem_bits_univ h_S1x128 rfl) (.inl rfl))

/-- Send peer `r` this device's largest magnitude. -/
def sendMax (c : Dev nD) (r : Fin 7) : TProg F PUnit :=
  Prog.lift (.enqueueDma (aRow arg6 0) (.remote (Dev.tc (maxDev c r)) (aRow arg6 (back r.val)) (.dma (sem8 arg9 (there r.val)))) (.dma (sem8 arg10 (back r.val)))
    (View.wordExact_bits rfl) (View.wordExact_bits rfl) ⟨⟨rfl, Or.inl rfl⟩, trivial⟩)

/-- Wait for the magnitude that lands in row `r + 1`. -/
def awaitMax (r : Fin 7) : TProg F PUnit :=
  Prog.lift (.waitDma2 (sem8 arg10 (there r.val)) (aRow arg6 0) (aRow arg6 (there r.val)) (View.wordExact_bits rfl) (View.wordExact_bits rfl))

/-- Read all the magnitudes. -/
def readMax : TProg F (Vec F S8x128 .f32) :=
  Prog.lift (.load arg6 (Rect.unit (s := S8x128) ![0, 0] S8x128.size inb_S8x128_S8x128_0_0).toLoadRect (View.loadsAt_vmem h_S8x128))

/-- Quantise a block of columns in place. -/
def quantise (m : Vec F S8x128 .f32) (n : Fin 4) : TProg F PUnit := do
  let y : Vec F S512x2048 .f32 ← Prog.lift (.load arg2 (rectO n).toLoadRect (View.loadsAt_vmem h_S512x2048))
  let _y : Vec F S512x2048 .f32 ← Prog.lift (.load arg2 (rectO n).toLoadRect (View.loadsAt_vmem h_S512x2048))
  Prog.lift (.store arg2 (rectO n) (k0_pay84 m y) Finset.univ (View.stores_vmem_bits_univ h_S512x2048 rfl) (.inl rfl))

/-- Wait until this device's two copies to peer `r` have left. -/
def finish (c : Dev nD) (r : Fin 7) : TProg F PUnit := do
  Prog.lift (.waitDma2 (sem8 arg7 (there r.val)) (gSlot arg3 (back r.val)) (xPart arg0 c r) ((harg3.wordExact_slice rfl _ (slot8_words (back r.val))).reshape _ _) (harg0.wordExact_slice rfl _ (k0_off1_wordsbf16 c r)))
  Prog.lift (.waitDma2 (sem8 arg9 (there r.val)) (aRow arg6 (back r.val)) (aRow arg6 0) (View.wordExact_bits rfl) (View.wordExact_bits rfl))

/-- The body of device `c`. -/
def onDevice (c : Dev nD) : TProg F PUnit := do
  seqF 7 (enter c)
  semWaitWord barrierArr.sem 7#32
  seqF 7 (sendRows arg0 harg0 arg3 harg3 arg7 arg8 c)
  keepRows arg0 arg3 harg3 c
  seqF 5 fun i => fetch arg1 arg4 arg11 c i.val
  narrow arg1 arg4 arg5 harg5 arg11 c 0
  seqF 32 (step arg0 harg0 arg1 arg2 arg3 harg3 arg4 arg5 harg5 arg8 arg11 c)
  localMax arg2 arg6
  seqF 7 (sendMax arg6 arg9 arg10 c)
  seqF 7 (awaitMax arg6 arg10)
  let m : Vec F S8x128 .f32 ← readMax arg6
  seqF 4 (quantise arg2 m)
  seqF 7 (finish arg0 harg0 arg3 harg3 arg6 arg7 arg9 c)

set_option maxRecDepth 65536 in
/-- The printed body is these loops, by definitional unfolding. -/
theorem body_eq :
    cc0_body (F := F) arg0 harg0 arg1 harg1 arg2 harg2 arg3 harg3 arg4 harg4 arg5 harg5 arg6 harg6 arg7 arg8 arg9 arg10 arg11
      = (Prog.lift .deviceId >>= fun c => onDevice arg0 harg0 arg1 arg2 arg3 harg3 arg4 arg5 harg5 arg6 arg7 arg8 arg9 arg10 arg11 c) := by
  chain_rfl

end

end Cert.KernelIdeal.Run

end
-- ==== Proof.Run.Sched.lean ====
/- What the devices' buffers hold along the run, and the schedule of their handshakes: which semaphore is raised by whom,
   by how much, and which part of memory changes hands with it. -/
module

public import proofs.«01_k».proof.Proof.Run.Steps
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Mathlib.Algebra.BigOperators.Intervals
public import Mathlib.Tactic.Abel
public import Idealize.SL.BI.BigOpNat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The ghost state: the pipeline's, the handshakes', the local copies' -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The buffers and their parts -/

abbrev xM : Memref sig .tc .vmem S4096x512 .bf16 := Memref.whole cc0_stg0_0
abbrev wM : Memref sig .tc .hbm S4096x8192 .f32 := Memref.whole main_arg1
abbrev oM : Memref sig .tc .vmem S512x8192 .f32 := Memref.whole cc0_stg1_0
abbrev gM : Memref sig .tc .vmem S8x512x512 .bf16 := Memref.whole cc0_scratch0
abbrev tM : Memref sig .tc .vmem S6x512x2048 .f32 := Memref.whole cc0_scratch1
abbrev bM : Memref sig .tc .vmem S2x512x2048 .bf16 := Memref.whole cc0_scratch2
abbrev aM : Memref sig .tc .vmem S8x128 .f32 := Memref.whole cc0_scratch3

theorem rowBlock_inb : ∀ (t : Dev nD), ∀ a, (![512 * t.val, 0] : Fin 2 → Nat) a + S512x512.size a ≤ S4096x512.size a := by decide +kernel

/-- The rows of the `x` block that go to device `t`. -/
abbrev rectP (t : Dev nD) : Rect S4096x512 := Rect.unit ![512 * t.val, 0] S512x512.size (rowBlock_inb t)

/-! ## Places on the circle of devices -/

theorem from_there (c : Dev nD) (r : ℕ) : from_ c (there r) = peer c r := by
  unfold from_ there peer; apply Fin.ext; simp only; omega
theorem from_zero (c : Dev nD) : from_ c 0 = c := by revert c; decide +kernel
theorem from_back (c : Dev nD) {r : ℕ} (h : r < 7) : from_ (peer c r) (back r) = c := by
  unfold from_ back peer; apply Fin.ext; have := c.isLt; simp only at this ⊢; change c.val < 8 at this; omega
theorem peer_back (c : Dev nD) {r : ℕ} (h : r < 7) : peer (peer c r) (6 - r) = c := by
  unfold peer; apply Fin.ext; have := c.isLt; change c.val < 8 at this; simp only; omega
theorem back_rev {r : ℕ} (h : r < 7) : back (6 - r) = there r := by
  unfold back there; apply Fin.ext; simp only; omega
theorem there_rev {r : ℕ} (h : r < 7) : there (6 - r) = back r := by
  unfold back there; apply Fin.ext; simp only; omega
theorem there_ne_zero {r : ℕ} (h : r < 7) : there r ≠ 0 := by
  intro hh; have := congrArg Fin.val hh; unfold there at this; simp at this; omega
theorem back_ne_zero {r : ℕ} (h : r < 7) : back r ≠ 0 := by
  intro hh; have := congrArg Fin.val hh; unfold back at this; simp at this; omega

/-! ## The values -/

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- Device `c`'s weights. -/
def wts (c : Dev nD) : (main_arg1 : Ref sig .tc).ty.Contents (Elt F) := m ((c : Thread nD τ).loc main_arg1)

/-- The rows of a staged block that go to device `t`. -/
def rows (t : Dev nD) (f : (cc0_stg0_0 : Ref sig .tc).ty.Contents (Elt F)) : Vec F S512x512 .bf16 := (xM.access (rectP t)).read (Elt F) f

/-- What slot `j` of device `c` holds once it is filled: its own rows of the block of the device it comes from. -/
def xv (c : Dev nD) (j : Fin 8) : Vec F S1x512x512 .bf16 :=
  shapeCast S1x512x512 (rows c (xstg m (from_ c j))) shapeCasts_S512x512_S1x512x512

/-- The block of weights of step `i`. -/
def wtile (c : Dev nD) (i : ℕ) : Vec F S512x2048 .f32 := (wM.access (rectW c (colOf i) (slotOf i))).read (Elt F) (wts m c)

/-- The same, as it lies in a landing buffer, and narrowed. -/
def wv (c : Dev nD) (i : ℕ) : Vec F S1x512x2048 .f32 := shapeCast S1x512x2048 (wtile m c i) shapeCasts_S512x2048_S1x512x2048
def nv (c : Dev nD) (i : ℕ) : Vec F S1x512x2048 .bf16 := k0_pay2 (wv m c i)

/-- The block of columns `n` of the product after `k + 1` of its eight terms. -/
def yv (c : Dev nD) (n : ℕ) : ℕ → Vec F S512x2048 .f32
  | 0 => k0_pay4 (xv m c (slotOf n)) (nv m c n)
  | k + 1 => k0_pay78 (xv m c (slotOf (4 * (k + 1) + n))) (nv m c (4 * (k + 1) + n)) (yv c n k)

/-- Device `c`'s largest magnitude, across a row. -/
def lmax (c : Dev nD) : Vec F S1x128 .f32 := k0_pay80 (k0_pay79 (yv m c 0 7) (yv m c 1 7)) (yv m c 2 7) (yv m c 3 7)

/-- Row 0 of the magnitudes holding it. -/
def lmaxBuf (c : Dev nD) : Buf (Elt F) ((c : Thread nD τ).loc cc0_scratch3) :=
  (aM.access (rectA 0)).write (Elt F) (m ((c : Thread nD τ).loc cc0_scratch3)) (lmax m c) Finset.univ

/-- All the magnitudes as device `c` gathers them: row `j` is that of the device slot `j` comes from. -/
def amaxAll (c : Dev nD) : Vec F S8x128 .f32 := fun i => lmax m (from_ c (i 0)) (ix2 0 (i 1))

/-- The result's block of columns `n`. -/
def qTile (c : Dev nD) (n : ℕ) : Vec F S512x2048 .f32 := k0_pay84 (amaxAll m c) (yv m c n 7)

/-- Device `c`'s result. -/
def outAt (c : Dev nD) : (cc0_stg1_0 : Ref sig .tc).ty.Contents (Elt F) :=
  fun i => qTile m c ((i 1).val / 2048) (ix2 (i 0) ⟨(i 1).val % 2048, Nat.mod_lt _ (by decide)⟩)

/-! ## The semaphores -/

/-- The four arrays of handshake semaphores: rows sent, rows received, magnitude sent, magnitude received. -/
def arr : Fin 4 → DmaSems sig S8 := ![cc0_scratch4, cc0_scratch5, cc0_scratch6, cc0_scratch7]
abbrev barS : Sem sig := barrierArr.sem
abbrev hsem (a : Fin 4) (j : Fin 8) : DmaSem sig := sem8 (arr a) j
abbrev wsem (k : Fin 6) : DmaSem sig := sem6 cc0_scratch8 k

/-- Which handshake semaphore a DMA semaphore is. -/
def which (q : DmaSem sig) : Option (Fin 4 × Fin 8) :=
  if h : 2 ≤ q.val ∧ q.val < 34 then some (⟨(q.val - 2) / 8, by omega⟩, ⟨(q.val - 2) % 8, Nat.mod_lt _ (by decide)⟩) else none

theorem which_hsem : ∀ (a : Fin 4) (j : Fin 8), which (hsem a j) = some (a, j) := by decide +kernel
theorem which_wsem : ∀ (k : Fin 6), which (wsem k) = none := by decide +kernel

/-- A semaphore of the handshakes: the barrier's, or one of the four arrays'. -/
abbrev CI : Type := Option (Fin 4 × Fin 8)
def csem : CI → SemLoc sig
  | none => .reg barS
  | some aj => .dma (hsem aj.1 aj.2)
abbrev kcell (ci : Dev nD × CI) : GSem nD τ sig := ((ci.1 : Thread nD τ), csem ci.2)
abbrev barCell (c : Dev nD) : GSem nD τ sig := ((c : Thread nD τ), .reg barS)
abbrev cell (c : Dev nD) (a : Fin 4) (j : Fin 8) : GSem nD τ sig := ((c : Thread nD τ), .dma (hsem a j))

theorem kcell_none (c : Dev nD) : kcell (c, none) = barCell c := rfl
theorem kcell_some (c : Dev nD) (a : Fin 4) (j : Fin 8) : kcell (c, some (a, j)) = cell c a j := rfl

/-- The credit of a block of rows, and of a row of magnitudes. -/
abbrev NX : ℕ := (gSlot gM 0).view.dmaCredit
abbrev NA : ℕ := (aRow aM 0).view.dmaCredit
theorem NX_pos : 0 < NX := View.dmaCredit_pos _ (by decide)
theorem NA_pos : 0 < NA := View.dmaCredit_pos _ (by decide)
def amt (a : Fin 4) : ℕ := if a.val < 2 then NX else NA
theorem amt_pos (a : Fin 4) : 0 < amt a := by unfold amt; split; exacts [NX_pos, NA_pos]

/-! ## What changes hands -/

/-- Slot `j` of device `c`'s gathered rows, whole, at any contents. -/
def slotAny (c : Dev nD) (j : Fin 8) : sProp 𝕄 :=
  iprop(∃ f, (gM.access (rectG j)).loc (c : Thread nD τ) ↦[(gM.access (rectG j)).set]{fullShare} f)
/-- The same holding the rows that belong there. -/
def slotFull (c : Dev nD) (j : Fin 8) : sProp 𝕄 :=
  iprop(∃ f, ⌜(gM.access (rectG j)).read (Elt F) f = xv m c j⌝ ∗ (gM.access (rectG j)).loc (c : Thread nD τ) ↦[(gM.access (rectG j)).set]{fullShare} f)
/-- Row `j` of device `c`'s gathered magnitudes, whole, at any contents. -/
def rowAny (c : Dev nD) (j : Fin 8) : sProp 𝕄 :=
  iprop(∃ f, (aM.access (rectA j)).loc (c : Thread nD τ) ↦[(aM.access (rectA j)).set]{fullShare} f)
def rowFull (c : Dev nD) (j : Fin 8) : sProp 𝕄 :=
  iprop(∃ f, ⌜(aM.access (rectA j)).read (Elt F) f = lmax m (from_ c j)⌝ ∗ (aM.access (rectA j)).loc (c : Thread nD τ) ↦[(aM.access (rectA j)).set]{fullShare} f)
/-- Device `c`'s staged rows for device `t`. -/
def xPt (c t : Dev nD) : sProp 𝕄 :=
  (xM.access (rectP t)).loc (c : Thread nD τ) ↦[(xM.access (rectP t)).set]{fullShare} xstg m c
/-- Device `c`'s own row of magnitudes, at a share. -/
def ownRow (c : Dev nD) (q : PosShare TreeShare) : sProp 𝕄 :=
  (aM.access (rectA 0)).loc (c : Thread nD τ) ↦[(aM.access (rectA 0)).set]{q} lmaxBuf m c

instance slotAny_storable (c : Dev nD) (j : Fin 8) : BI.Storable (upEmb : UEmb _ 𝕄) (slotAny (F := F) c j) := by unfold slotAny; infer_instance
instance slotFull_storable (c : Dev nD) (j : Fin 8) : BI.Storable (upEmb : UEmb _ 𝕄) (slotFull m c j) := by unfold slotFull; infer_instance
instance rowAny_storable (c : Dev nD) (j : Fin 8) : BI.Storable (upEmb : UEmb _ 𝕄) (rowAny (F := F) c j) := by unfold rowAny; infer_instance
instance rowFull_storable (c : Dev nD) (j : Fin 8) : BI.Storable (upEmb : UEmb _ 𝕄) (rowFull m c j) := by unfold rowFull; infer_instance
instance xPt_storable (c t : Dev nD) : BI.Storable (upEmb : UEmb _ 𝕄) (xPt m c t) := by unfold xPt; infer_instance
instance ownRow_storable (c : Dev nD) (q : PosShare TreeShare) : BI.Storable (upEmb : UEmb _ 𝕄) (ownRow m c q) := by unfold ownRow; infer_instance

/-- What entering peer `r` hands device `c`: the slot and the row there that `c` fills. -/
def enterPay (c : Dev nD) (r : ℕ) : sProp 𝕄 := iprop(slotAny (peer c r) (back r) ∗ rowAny (peer c r) (back r))
/-- What landing on semaphore `j` of array `a` hands device `c`. -/
def landPay (c : Dev nD) (a : Fin 4) (j : Fin 8) : sProp 𝕄 :=
  match a with
  | 0 => xPt m c (from_ c j)
  | 1 => slotFull m c j
  | 2 => ownRow m c (Transfers.shareTokN fullShare (j.val - 1))
  | 3 => rowFull m c j

instance enterPay_storable (c : Dev nD) (r : ℕ) : BI.Storable (upEmb : UEmb _ 𝕄) (enterPay (F := F) c r) := by unfold enterPay; infer_instance
instance landPay_storable (c : Dev nD) (a : Fin 4) (j : Fin 8) : BI.Storable (upEmb : UEmb _ 𝕄) (landPay m c a j) := by
  unfold landPay; split <;> infer_instance

/-! ## The schedule -/

/-- The duties of a semaphore: the barrier's one from each peer; a handshake semaphore's one, the index-0 ones' none. -/
def dutiesAt : SemLoc sig → Finset ℕ
  | .reg _ => Finset.range 7
  | .dma q => match which q with
    | some (_, j) => if j = 0 then ∅ else {0}
    | none => ∅
def amountAt : SemLoc sig → ℕ
  | .reg _ => 1
  | .dma q => match which q with
    | some (a, _) => amt a
    | none => 1
def payAt (c : Dev nD) (d : ℕ) : SemLoc sig → sProp 𝕄
  | .reg _ => enterPay c d
  | .dma q => match which q with
    | some (a, j) => landPay m c a j
    | none => iprop(emp)

instance payAt_storable (c : Dev nD) (d : ℕ) (s : SemLoc sig) : BI.Storable (upEmb : UEmb _ 𝕄) (payAt m c d s) := by
  unfold payAt; (repeat' split) <;> infer_instance

def Rd : Rounds.Schedule (GSem nD τ sig) ℕ 𝕄 where
  duties g r := if r = 0 ∧ g.1.2 = .tc then dutiesAt g.2 else ∅
  unitless _ := False
  amount g _ _ := amountAt g.2
  payload g _ d := payAt m g.1.1 d g.2
  amount_pos g _ _ _ := by
    show 0 < amountAt g.2
    unfold amountAt
    (repeat' split) <;> first | exact Nat.one_pos | exact amt_pos _

instance Rd_payload_storable (g : GSem nD τ sig) (r d : ℕ) : BI.Storable (upEmb : UEmb _ 𝕄) ((Rd m).payload g r d) :=
  payAt_storable m g.1.1 d g.2

theorem duties_bar (c : Dev nD) : (Rd m).duties (barCell c) 0 = Finset.range 7 := by dsimp only [Rd]; exact if_pos ⟨rfl, rfl⟩
theorem duties_cell (c : Dev nD) (a : Fin 4) {j : Fin 8} (h : j ≠ 0) : (Rd m).duties (cell c a j) 0 = {0} := by
  dsimp only [Rd]; rw [if_pos ⟨rfl, rfl⟩]; unfold dutiesAt; simp only [which_hsem]; exact if_neg h
theorem duties_zero (c : Dev nD) (a : Fin 4) (r : ℕ) : (Rd m).duties (cell c a 0) r = ∅ := by
  dsimp only [Rd]
  split
  · unfold dutiesAt; simp only [which_hsem, if_true]
  · rfl
theorem duties_later (g : GSem nD τ sig) : ∀ r, 1 ≤ r → (Rd m).duties g r = ∅ :=
  fun r hr => by dsimp only [Rd]; exact if_neg fun h => by omega
theorem amount_bar (c : Dev nD) (r d : ℕ) : (Rd m).amount (barCell c) r d = 1 := rfl
theorem amount_cell (c : Dev nD) (a : Fin 4) (j : Fin 8) (r d : ℕ) : (Rd m).amount (cell c a j) r d = amt a := by
  dsimp only [Rd]; unfold amountAt; simp only [which_hsem]
theorem payload_bar (c : Dev nD) (r d : ℕ) : (Rd m).payload (barCell c) r d = enterPay c d := rfl
theorem payload_cell (c : Dev nD) (a : Fin 4) (j : Fin 8) (r d : ℕ) : (Rd m).payload (cell c a j) r d = landPay m c a j := by
  dsimp only [Rd]; unfold payAt; simp only [which_hsem]
theorem expect_bar (c : Dev nD) : (Rd m).expect (barCell c) 0 = 7 := by
  unfold Schedule.expect Schedule.amountOf
  rw [duties_bar, Finset.sum_congr rfl fun d _ => amount_bar m c 0 d]; rfl
theorem expect_cell (c : Dev nD) (a : Fin 4) {j : Fin 8} (h : j ≠ 0) : (Rd m).expect (cell c a j) 0 = amt a := by
  unfold Schedule.expect Schedule.amountOf; rw [duties_cell m c a h, Finset.sum_singleton, amount_cell]
theorem rest_bar (c : Dev nD) :
    bigSep ((Rd m).duties (barCell c) 0 \ ∅) (fun d => (Rd m).payload (barCell c) 0 d) = bigSep (Finset.range 7) (fun r => enterPay (F := F) c r) := by
  rw [Finset.sdiff_empty, duties_bar]; rfl
theorem rest_cell (c : Dev nD) (a : Fin 4) {j : Fin 8} (h : j ≠ 0) :
    bigSep ((Rd m).duties (cell c a j) 0 \ ∅) (fun d => (Rd m).payload (cell c a j) 0 d) = landPay m c a j := by
  rw [Finset.sdiff_empty, duties_cell m c a h, bigSep_singleton, payload_cell]

/-! ## What is owed, and the order of the waits -/

/-- What device `c` owes its peers `s ≤ r < 7` at array `a`. -/
def owedAt (c : Dev nD) (a : Fin 4) (s : ℕ) : CellTallies nD τ sig Unit := ∑ r ∈ Finset.Ico s 7, tallyAt (cell (peer c r) a (back r)) () (amt a)
def owedBar (c : Dev nD) (s : ℕ) : CellTallies nD τ sig Unit := ∑ r ∈ Finset.Ico s 7, tallyAt (barCell (peer c r)) () 1
/-- What it owes once it has entered at `s`, sent the rows to `t` and the magnitude to `u` of its peers. -/
def owed (c : Dev nD) (s t u : ℕ) : CellTallies nD τ sig Unit := owedBar c s + owedAt c 1 t + owedAt c 3 u

theorem owedAt_succ (c : Dev nD) (a : Fin 4) {s : ℕ} (h : s < 7) :
    owedAt c a s = owedAt c a (s + 1) + tallyAt (cell (peer c s) a (back s)) () (amt a) := by
  unfold owedAt; rw [Finset.sum_eq_sum_Ico_succ_bot h, add_comm]
theorem owedBar_succ (c : Dev nD) {s : ℕ} (h : s < 7) : owedBar c s = owedBar c (s + 1) + tallyAt (barCell (peer c s)) () 1 := by
  unfold owedBar; rw [Finset.sum_eq_sum_Ico_succ_bot h, add_comm]
theorem owed_bar (c : Dev nD) {s : ℕ} (t u : ℕ) (h : s < 7) : owed c s t u = owed c (s + 1) t u + tallyAt (barCell (peer c s)) () 1 := by
  unfold owed; rw [owedBar_succ c h]; abel
theorem owed_rows (c : Dev nD) (s : ℕ) {t : ℕ} (u : ℕ) (h : t < 7) : owed c s t u = owed c s (t + 1) u + tallyAt (cell (peer c t) 1 (back t)) () (amt 1) := by
  unfold owed; rw [owedAt_succ c 1 h]; abel
theorem owed_max (c : Dev nD) (s t : ℕ) {u : ℕ} (h : u < 7) : owed c s t u = owed c s t (u + 1) + tallyAt (cell (peer c u) 3 (back u)) () (amt 3) := by
  unfold owed; rw [owedAt_succ c 3 h]; abel
theorem owed_end (c : Dev nD) : owed c 7 7 7 = 0 := by
  unfold owed owedBar owedAt; simp

def L (g : GSem nD τ sig) : Finset Unit := if g.1.2 = .tc then {()} else ∅
def lvAt : SemLoc sig → ℕ
  | .reg _ => 1
  | .dma q => match which q with
    | some (a, _) => if a = 1 then 2 else if a = 3 then 3 else 0
    | none => 0
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl
theorem lvAt_hsem (a : Fin 4) (j : Fin 8) : lvAt (.dma (hsem a j)) = if a = 1 then 2 else if a = 3 then 3 else 0 := by
  unfold lvAt; simp only [which_hsem]

theorem sum_tally_pos {S : Finset ℕ} {f : ℕ → GSem nD τ sig} {n : ℕ} {g : GSem nD τ sig} {u : Unit}
    (h : 0 < (∑ r ∈ S, tallyAt (f r) () n : CellTallies nD τ sig Unit) g u) : ∃ r ∈ S, g = f r := by
  by_contra hn
  push Not at hn
  rw [Finset.sum_apply, Finsupp.finset_sum_apply] at h
  rw [Finset.sum_eq_zero fun r hr => by rw [tallyAt_apply]; exact if_neg fun h' => hn r hr h'.1] at h
  exact Nat.lt_irrefl 0 h

/-- What is owed is at peers' barrier, rows-received or magnitude-received semaphores only. -/
theorem owed_pos {c : Dev nD} {s t u : ℕ} {g : GSem nD τ sig} {x : Unit} (h : 0 < owed c s t u g x) :
    (∃ r ∈ Finset.Ico s 7, g = barCell (peer c r)) ∨ (∃ r ∈ Finset.Ico t 7, g = cell (peer c r) 1 (back r))
      ∨ ∃ r ∈ Finset.Ico u 7, g = cell (peer c r) 3 (back r) := by
  unfold owed at h
  rw [Pi.add_apply, Finsupp.add_apply, Pi.add_apply, Finsupp.add_apply] at h
  rcases Nat.eq_zero_or_pos (owedBar c s g x) with h1 | h1
  · rcases Nat.eq_zero_or_pos (owedAt c 1 t g x) with h2 | h2
    · refine .inr (.inr (sum_tally_pos (n := amt 3) (u := x) ?_)); rw [h1, h2] at h; simpa [owedAt] using h
    · exact .inr (.inl (sum_tally_pos h2))
  · exact .inl (sum_tally_pos h1)

/-- A wait below everything owed is allowed. -/
theorem mayWait_of_lt (c : Dev nD) (sm : SemLoc sig) (n : ℕ) (hn : lvAt sm ≤ n) (O : CellTallies nD τ sig Unit)
    (hO : ∀ g u, 0 < O g u → g.1.2 = .tc ∧ n < lvAt g.2) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hn)
    (fun g u hg => (hO g u hg).2)

theorem mayWait_zero (c : Dev nD) (sm : SemLoc sig) (h : lvAt sm = 0) (s t u : ℕ) :
    (levAts L lv : sProp 𝕄) ⊢ MayWait (c : Thread nD τ) sm () (owed c s t u) :=
  mayWait_of_lt c sm 0 h.le _ fun g x hg => by
    rcases owed_pos hg with ⟨r, -, rfl⟩ | ⟨r, -, rfl⟩ | ⟨r, -, rfl⟩
    · exact ⟨rfl, Nat.one_pos⟩
    · exact ⟨rfl, by rw [lvAt_hsem]; decide⟩
    · exact ⟨rfl, by rw [lvAt_hsem]; decide⟩

theorem mayWait_bar (c : Dev nD) : (levAts L lv : sProp 𝕄) ⊢ MayWait (c : Thread nD τ) (.reg barS) () (owed c 7 0 0) :=
  mayWait_of_lt c _ 1 le_rfl _ fun g x hg => by
    rcases owed_pos hg with ⟨r, hr, rfl⟩ | ⟨r, -, rfl⟩ | ⟨r, -, rfl⟩
    · simp at hr
    · exact ⟨rfl, by rw [lvAt_hsem]; decide⟩
    · exact ⟨rfl, by rw [lvAt_hsem]; decide⟩

theorem mayWait_rows (c : Dev nD) (j : Fin 8) : (levAts L lv : sProp 𝕄) ⊢ MayWait (c : Thread nD τ) (.dma (hsem 1 j)) () (owed c 7 7 0) :=
  mayWait_of_lt c _ 2 (by rw [lvAt_hsem]; decide) _ fun g x hg => by
    rcases owed_pos hg with ⟨r, hr, rfl⟩ | ⟨r, hr, rfl⟩ | ⟨r, -, rfl⟩
    · simp at hr
    · simp at hr
    · exact ⟨rfl, by rw [lvAt_hsem]; decide⟩

/-! ## The invariants of the handshakes' semaphores -/

/-- Every handshake semaphore's invariant, under the names `K`, and that its only round is open. -/
def records (K : Dev nD × CI → ℕ) : sProp 𝕄 :=
  iprop((bigSep Finset.univ fun ci => cellInv ER (Rd m) (K ci) (kcell ci)) ∗ bigSep Finset.univ fun ci : Dev nD × CI => reached ER (kcell ci) 0)

instance records_persistent (K : Dev nD × CI → ℕ) : BI.Persistent (records m K) := by unfold records; infer_instance

theorem one_of_all {ι : Type} [DecidableEq ι] {S : Finset ι} {i : ι} (h : i ∈ S) (Φ : ι → sProp 𝕄) : (bigSep S Φ : sProp 𝕄) ⊢ Φ i := bigSep_elim h

theorem records_inv (K : Dev nD × CI → ℕ) (ci : Dev nD × CI) : records m K ⊢ cellInv ER (Rd m) (K ci) (kcell ci) := by
  unfold records; iintro ⟨H, -⟩; iapply (one_of_all (Finset.mem_univ ci) (fun ci : Dev nD × CI => cellInv ER (Rd m) (K ci) (kcell ci))) $$ H
theorem records_reached (K : Dev nD × CI → ℕ) (ci : Dev nD × CI) : records m K ⊢ reached ER (kcell ci) 0 := by
  unfold records; iintro ⟨-, H⟩; iapply (one_of_all (Finset.mem_univ ci) (fun ci : Dev nD × CI => reached ER (kcell ci) 0)) $$ H

end Cert.KernelIdeal.Run
end
-- ==== Proof.Run.Moves.lean ====
/- The rule of each step of the body, at a symbolic peer, slot and step number. -/
module

public import proofs.«01_k».proof.Proof.Run.Sched

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

abbrev 𝒱₀ : Variants := Variants.none

/-- The weakest precondition of a program of device `c`'s core. -/
abbrev WP (c : Dev nD) {α : Type} (p : TProg F α) (Q : α → sProp 𝕄) : sProp 𝕄 :=
  wp frame (wpE (defs₀ (F := F)) 𝒱₀ (c : Thread nD τ) none) Set.univ p Q

/-! ## Sequences -/

/-- A sequence of programs by an invariant of how many have run, the count starting at `o`. -/
theorem wp_seqF_from (c : Dev nD) {α : Type} (I : ℕ → sProp 𝕄) (k : PUnit → TProg F α) (Q : α → sProp 𝕄) :
    ∀ (n o : ℕ) (f : Fin n → TProg F PUnit),
      (∀ (i : Fin n) (k : PUnit → TProg F α), I (o + i.val) ⊢ iprop((I (o + i.val + 1) -∗ WP c (k ⟨⟩) Q) -∗ WP c (f i >>= k) Q)) →
      I o ⊢ iprop((I (o + n) -∗ WP c (k ⟨⟩) Q) -∗ WP c (seqF n f >>= k) Q)
  | 0, o, f, _ => by
    unfold seqF
    rw [Prog.bind_ret]
    iintro H Hk
    iapply Hk $$ H
  | n + 1, o, f, h => by
    unfold seqF
    rw [Prog.bind_assoc]
    have h0 : ∀ k : PUnit → TProg F α, I o ⊢ iprop((I (o + 1) -∗ WP c (k ⟨⟩) Q) -∗ WP c (f 0 >>= k) Q) := h 0
    iintro H Hk
    iapply (h0 _) $$ H
    iintro H
    have ih := wp_seqF_from c I k Q n (o + 1) (fun i => f i.succ) fun i k => by
      have := h i.succ k
      rw [show o + (i.succ : Fin (n + 1)).val = o + 1 + i.val by rw [Fin.val_succ]; omega] at this
      exact this
    rw [show o + 1 + n = o + (n + 1) by omega] at ih
    iapply ih $$ H
    iexact Hk

theorem wp_seqF (c : Dev nD) {α : Type} (I : ℕ → sProp 𝕄) (k : PUnit → TProg F α) (Q : α → sProp 𝕄) (n : ℕ) (f : Fin n → TProg F PUnit)
    (h : ∀ (i : Fin n) (k : PUnit → TProg F α), I i.val ⊢ iprop((I (i.val + 1) -∗ WP c (k ⟨⟩) Q) -∗ WP c (f i >>= k) Q)) :
    I 0 ⊢ iprop((I n -∗ WP c (k ⟨⟩) Q) -∗ WP c (seqF n f >>= k) Q) := by
  have := wp_seqF_from c I k Q n 0 f (by simpa only [Nat.zero_add] using h)
  simpa only [Nat.zero_add] using this

variable (m : (ℓ : Loc nD τ sig) → Buf (Elt F) ℓ) (K : Dev nD × CI → ℕ) (c : Dev nD)

/-- What every step may use again and again: the handshakes' invariants and the order of the waits. -/
def ctx : sProp 𝕄 := iprop(records m K ∗ levAts L lv)
instance ctx_persistent : BI.Persistent (ctx m K) := by unfold ctx; infer_instance

/-- Device `c` owes `O`, whatever it has waited on. -/
def debt (O : CellTallies nD τ sig Unit) : sProp 𝕄 := iprop(∃ W, owes (c : Thread nD τ) O W)

/-- Device `c`'s place on one of its semaphores: its round is open (`0`) or done (`1`). -/
abbrev at_ (g : GSem nD τ sig) (r : ℕ) : sProp 𝕄 := atPos ER g r ∅ 0

theorem unit_eq {s : Shape} {o o' : Fin s.rank → ℕ} {z : Fin s.rank → ℕ} (h : o = o') (h₁ : ∀ a, o a + z a ≤ s.size a) (h₂ : ∀ a, o' a + z a ≤ s.size a) :
    Rect.unit o z h₁ = Rect.unit o' z h₂ := by subst h; rfl

/-- Reading through a view what was written through a reshaping of it. -/
theorem read_write_reshape {κ : Kind} {sp : Space} {s s' : Shape} {e : EltTy} (v : View sig κ sp s e) (h : s'.numel = s.numel)
    (f : v.ty.Contents (Elt F)) (w : s'.Idx → Elt F e) :
    v.read (Elt F) ((v.reshape s' h).write (Elt F) f w Finset.univ) = fun x => w (Shape.reshapeEquiv h.symm x) := by
  funext x
  have hx : v.emb x = (v.reshape s' h).emb (Shape.reshapeEquiv h.symm x) := by
    show v.emb x = v.emb (Shape.reshapeEquiv h (Shape.reshapeEquiv h.symm x))
    rw [Shape.reshapeEquiv_reshapeEquiv, Shape.reshapeEquiv_self]
  have := congrFun (View.read_write_univ (v := v.reshape s' h) f w) (Shape.reshapeEquiv h.symm x)
  rw [← this, View.read_apply, View.read_apply, hx]

/-! ## Entering -/

/-- What signalling peer `r` uses up. -/
def enterRes (r : ℕ) : sProp 𝕄 :=
  iprop(dutyTok ER (barCell (peer c r)) 0 (6 - r) ∗ slotAny c (there r) ∗ rowAny c (there r))

def enterInv (s : ℕ) : sProp 𝕄 := iprop(ctx m K ∗ debt c (owed c s 0 0) ∗ bigSep (Finset.Ico s 7) (enterRes c))

theorem wp_signal_peer (n : Dev nD) {r : ℕ} (hr : r < 7) (hn : n = peer c r) {α : Type} {Q : α → sProp 𝕄} {k : PUnit → TProg F α} :
    iprop(ctx m K ∗ debt c (owed c r 0 0) ∗ enterRes c r)
      ⊢ iprop((debt c (owed c (r + 1) 0 0) -∗ WP c (k ⟨⟩) Q) -∗ WP c (.op (.semSignal (n : Thread nD τ) barS 1) k) Q) := by
  subst hn
  unfold enterRes ctx debt
  iintro ⟨⟨#HR, -⟩, ⟨%W, HO⟩, Ht, Hs, Ha⟩ Hk
  ihave #HI := (records_inv m K (peer c r, none)) $$ HR
  ihave #Hr := (records_reached m K (peer c r, none)) $$ HR
  iapply (Rounds.wp_signal 𝒱₀ ER (Rd m) (c : Thread nD τ) none (dst := (peer c r : Thread nD τ)) (κ := K (peer c r, none))
      (d := 6 - r) (r := 0) (by rw [duties_bar]; exact Finset.mem_range.mpr (by omega)) (amount_bar m (peer c r) 0 (6 - r)) () (owed c (r + 1) 0 0) (owed_bar c 0 0 hr))
    $$ [HO Ht Hs Ha]
  · isplitr; · iexact HI
    isplitl [HO]; · iexact HO
    isplitl [Ht]; · iexact Ht
    isplitl [Hs Ha]
    · rw [payload_bar]; unfold enterPay; rw [peer_back c hr, back_rev hr]
      isplitl [Hs] <;> iassumption
    iexact Hr
  iintro HO
  iapply Hk
  iexists W; iexact HO

theorem wp_enter {α : Type} {Q : α → sProp 𝕄} (r : Fin 7) (k : PUnit → TProg F α) :
    enterInv m K c r.val ⊢ iprop((enterInv m K c (r.val + 1) -∗ WP c (k ⟨⟩) Q) -∗ WP c (enter c r >>= k) Q) := by
  unfold enterInv enter
  simp only [semSignalWord, Prog.lift, Prog.bind_op, Prog.bind_ret]
  rw [bigSep_Ico_succ_bot r.isLt]
  iintro ⟨#HR, HO, Hr, Hrest⟩ Hk
  iapply (wp_signal_peer m K c _ r.isLt (sigDev_eq c r)) $$ [HO Hr]
  · isplitr; · iexact HR
    isplitl [HO] <;> iassumption
  iintro HO
  iapply Hk
  isplitr; · iexact HR
  isplitl [HO] <;> iassumption

/-- The wait for all seven peers to have entered. -/
theorem wp_allIn {α : Type} {Q : α → sProp 𝕄} (k : PUnit → TProg F α) :
    iprop(ctx m K ∗ debt c (owed c 7 0 0) ∗ cred (tallyAt (barCell c) () 7) ∗ at_ (F := F) (barCell c) 0)
      ⊢ iprop(((debt c (owed c 7 0 0) ∗ at_ (barCell c) 1 ∗ bigSep (Finset.range 7) (enterPay c)) -∗ WP c (k ⟨⟩) Q)
        -∗ WP c (semWaitWord barrierArr.sem 7#32 >>= k) Q) := by
  unfold ctx debt at_
  simp only [semWaitWord, Prog.lift, Prog.bind_op, Prog.bind_ret]
  iintro ⟨⟨#HR, #HL⟩, ⟨%W, HO⟩, Hc, Ha⟩ Hk
  ihave #HI := (records_inv m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := owed c 7 0 0) (W := W) (R := 0) (m := 0) (T := ∅)
      (by rw [expect_bar]; decide)) $$ [HO Hc Ha]
  · isplitr; · iexact HI
    isplitl [Hc]; · iexact Hc
    isplitl [HO]; · iexact HO
    isplitr; · iapply (mayWait_bar c); iexact HL
    iexact Ha
  iintro ⟨HO, Ha, -, Hp⟩
  ihave Hp := (Entails.of_eq (rest_bar m c)) $$ Hp
  iapply Hk
  isplitl [HO]; · iexists _; iexact HO
  isplitl [Ha] <;> iassumption

/-! ## Waiting for a copy of the handshakes -/

/-- A wait for the copy that lands on semaphore `j ≠ 0` of array `a`. -/
theorem wp_landed (a : Fin 4) (j : Fin 8) (hj : j ≠ 0) (O : CellTallies nD τ sig Unit)
    (hO : (levAts L lv : sProp 𝕄) ⊢ MayWait (c : Thread nD τ) (.dma (hsem a j)) () O)
    {sp sp' : Space} {s s' : Shape} {e e' : EltTy} {srcw : Memref sig .tc sp' s' e'} {dstw : Memref sig .tc sp s e} {hsrc : srcw.view.WordExact} {hdst : dstw.view.WordExact}
    (hN : dstw.view.dmaCredit = amt a) {α : Type} {Q : α → sProp 𝕄} (k : PUnit → TProg F α) :
    iprop(ctx m K ∗ debt c O ∗ cred (tallyAt (cell c a j) () (amt a)) ∗ at_ (F := F) (cell c a j) 0)
      ⊢ iprop(((debt c O ∗ at_ (cell c a j) 1 ∗ landPay m c a j) -∗ WP c (k ⟨⟩) Q)
        -∗ WP c (.op (.waitDma2 (hsem a j) srcw dstw hsrc hdst) k) Q) := by
  unfold ctx debt at_
  iintro ⟨⟨#HR, #HL⟩, ⟨%W, HO⟩, Hc, Ha⟩ Hk
  ihave #HI := (records_inv m K (c, some (a, j))) $$ HR
  ihave Hc := (Entails.of_eq (congrArg (fun n => (cred (tallyAt (cell c a j) () n) : sProp 𝕄)) hN.symm)) $$ Hc
  iapply (Rounds.wp_wait_rest_token 𝒱₀ ER (Rd m) (c : Thread nD τ) none (κ := K (c, some (a, j)))
      (wpE_waitDma2_eq 𝒱₀ (c : Thread nD τ) none Set.univ) (Set.mem_univ _) () (O := O) (W := W) (R := 0) (m := 0) (T := ∅)
      (by rw [Nat.zero_add, expect_cell m c a hj]; exact hN)) $$ [HO Hc Ha]
  · isplitr; · iexact HI
    isplitl [Hc]; · iexact Hc
    isplitl [HO]; · iexact HO
    isplitr; · iapply hO; iexact HL
    iexact Ha
  iintro ⟨HO, Ha, -, Hp⟩
  ihave Hp := (Entails.of_eq (rest_cell m c a hj)) $$ Hp
  iapply Hk
  isplitl [HO]; · iexists _; iexact HO
  isplitl [Ha] <;> iassumption

/-! ## Sending the rows -/

theorem amount_slot (j : Fin 8) (q : DmaSem sig) : (gSlot gM j).view.amount (.dma q) = NX := rfl
theorem amount_row (j : Fin 8) (q : DmaSem sig) : (aRow aM j).view.amount (.dma q) = NA := rfl
theorem amt_rows : amt 1 = NX := rfl
theorem amt_max : amt 3 = NA := rfl

theorem xPart_eq (r : Fin 7) : xPart xM c r = xM.slice (rectP (peer c r.val)) (fun _ => rfl) := by
  unfold xPart rectX rectP
  congr 1
  exact unit_eq (off1_eq c r) _ _

/-- What sending peer `r` its rows uses up, -/
def sendRes (r : ℕ) : sProp 𝕄 :=
  iprop(xPt m c (peer c r) ∗ slotAny (peer c r) (back r) ∗ dutyTok ER (cell c 0 (there r)) 0 0 ∗ dutyTok ER (cell (peer c r) 1 (back r)) 0 0)
/-- and what it leaves. -/
def sentRes (a : Fin 4) (r : ℕ) : sProp 𝕄 := cred (tallyAt (cell c a (there r)) () (amt a))

theorem slotFull_of_write (p : Dev nD) (j : Fin 8) (f : Buf (Elt F) ((gM.access (rectG j)).loc (p : Thread nD τ)))
    (x : Vec F S512x512 .bf16) (h : x = rows p (xstg m (from_ p j))) :
    ((gSlot gM j).view.loc (p : Thread nD τ) ↦[(gSlot gM j).view.set]{fullShare} (gSlot gM j).view.write (Elt F) f x Finset.univ)
      ⊢ slotFull m p j := by
  unfold slotFull
  have hs : (gSlot gM j).view.set = (gM.access (rectG j)).set := View.set_reshape _ _
  rw [hs]
  iintro H
  iexists ((gSlot gM j).view.write (Elt F) f x Finset.univ)
  isplitr
  · ipureintro
    subst h
    exact read_write_reshape (gM.access (rectG j)) squeezes_S1x512x512_S512x512.numel_eq f _
  iexact H

set_option maxHeartbeats 4000000 in
theorem wp_send_rows (n : Dev nD) {r : ℕ} (hr : r < 7) (hn : n = peer c r) (src : Memref sig .tc .vmem S512x512 .bf16)
    (hs : src = xM.slice (rectP (peer c r)) (fun _ => rfl))
    {hsc : (gSlot gM (back r) : Memref sig (Dev.tc n : Thread nD τ).2.kind .vmem S512x512 .bf16).view.ref.isScScratch = false}
    {hsrc : src.view.WordExact} {hdst : (gSlot gM (back r)).view.WordExact}
    {hsem : DmaTarget.Typed .vmem (.dma (hsem 1 (back r))) (.remote (Dev.tc n : Thread nD τ) (gSlot gM (back r)) (.dma (hsem 0 (there r))) hsc)}
    {α : Type} {Q : α → sProp 𝕄} {k : PUnit → TProg F α} :
    iprop(ctx m K ∗ debt c (owed c 7 r 0) ∗ sendRes m c r)
      ⊢ iprop(((debt c (owed c 7 (r + 1) 0) ∗ sentRes c 0 r) -∗ WP c (k ⟨⟩) Q)
        -∗ WP c (.op (.enqueueDma src (.remote (Dev.tc n : Thread nD τ) (gSlot gM (back r)) (.dma (Run.hsem 0 (there r))) hsc) (.dma (Run.hsem 1 (back r))) hsrc hdst hsem) k) Q) := by
  subst hn; subst hs
  unfold sendRes sentRes ctx debt slotAny xPt
  iintro ⟨⟨#HR, -⟩, ⟨%W, HO⟩, Hx, ⟨%f, Hs⟩, Ht₁, Ht₂⟩ Hk
  ihave #HI₁ := (records_inv m K (c, some (0, there r))) $$ HR
  ihave #HI₂ := (records_inv m K (peer c r, some (1, back r))) $$ HR
  ihave #Hr₁ := (records_reached m K (c, some (0, there r))) $$ HR
  ihave #Hr₂ := (records_reached m K (peer c r, some (1, back r))) $$ HR
  have hset : (gSlot gM (back r)).view.set = (gM.access (rectG (back r))).set := View.set_reshape _ _
  iapply (Rounds.wp_send_pointsTo 𝒱₀ ER (Rd m) (c : Thread nD τ) none (src := xM.slice (rectP (peer c r)) (fun _ => rfl)) (c' := (peer c r : Thread nD τ)) (dst := gSlot gM (back r)) (κ₁ := K (c, some (0, there r))) (κ₂ := K (peer c r, some (1, back r)))
    (r₁ := 0) (r₂ := 0) (d₁ := 0) (d₂ := 0) (fs := xstg m c) (fd := f) (q := fullShare)
    (by rw [duties_cell m c 0 (there_ne_zero hr)]; exact Finset.mem_singleton_self _)
    (by rw [duties_cell m (peer c r) 1 (back_ne_zero hr)]; exact Finset.mem_singleton_self _)
    () () (amt 1) ((amount_slot _ _).trans amt_rows.symm) (amount_cell m c 0 _ 0 0) (amount_cell m (peer c r) 1 _ 0 0) (owed c 7 (r + 1) 0) (owed_rows c 7 0 hr) (W := W)
    (by rw [payload_cell]; unfold landPay xPt; rw [from_there])
    (by rw [payload_cell]; exact slotFull_of_write m (peer c r) (back r) f _ (by rw [from_back c hr]; rfl))) $$ [HO Hx Hs Ht₁ Ht₂]
  · isplitr; · iexact HI₁
    isplitr; · iexact HI₂
    isplitl [Hx]; · iexact Hx
    isplitl [Hs]; · rw [hset]; iexact Hs
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists _; iexact HO
  iexact Hc

def sendInv (t : ℕ) : sProp 𝕄 :=
  iprop(ctx m K ∗ debt c (owed c 7 t 0) ∗ bigSep (Finset.Ico t 7) (sendRes m c) ∗ bigSep (Finset.range t) (sentRes c 0))

theorem wp_sendRows {α : Type} {Q : α → sProp 𝕄} (r : Fin 7) (k : PUnit → TProg F α) :
    sendInv m K c r.val ⊢ iprop((sendInv m K c (r.val + 1) -∗ WP c (k ⟨⟩) Q)
      -∗ WP c (sendRows xM (Memref.isWhole_whole _) gM (Memref.isWhole_whole _) cc0_scratch4 cc0_scratch5 c r >>= k) Q) := by
  unfold sendInv sendRows
  simp only [Prog.lift, Prog.bind_op, Prog.bind_ret]
  rw [bigSep_Ico_succ_bot r.isLt, bigSep_range_succ]
  iintro ⟨#HR, HO, ⟨Hr, Hrest⟩, Hdone⟩ Hk
  iapply (wp_send_rows m K c _ r.isLt (rowDev_eq c r) _ (xPart_eq c r)) $$ [HO Hr]
  · isplitr; · iexact HR
    isplitl [HO] <;> iassumption
  iintro ⟨HO, Hc⟩
  iapply Hk
  isplitr; · iexact HR
  isplitl [HO]; · iexact HO
  isplitl [Hrest]; · iexact Hrest
  isplitl [Hc] <;> iassumption

end Cert.KernelIdeal.Run
end
-- ==== Proof.Run.Turns.lean ====
/- The rules of the steps that work on the device's own memory: keeping its rows, fetching and narrowing the weights, the
   products, the magnitudes and the quantiser. -/
module

public import proofs.«01_k».proof.Proof.Run.Moves
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (K : Dev nD × CI → ℕ) (c : Dev nD)

abbrev EC : UEmb Counters (MT nD τ sig Unit (Elt F) ℕ UU ℕ) := countersEmb (U := UU)

/-! ## Keeping the device's own rows -/

theorem off2_eq : ∀ c : Dev nD, k0_off2 c = ![512 * c.val, 0] := by decide +kernel

theorem wp_keep_load (r : Rect S4096x512) (hr : r = rectP c) {hl : xM.view.LoadsAt r.toLoadRect} {α : Type} {Q : α → sProp 𝕄}
    {k : (r.shape.Idx → Elt F .bf16) → TProg F α} (k' : Vec F S512x512 .bf16 → TProg F α)
    (hk : k ≍ k') :
    xPt m c c ⊢ iprop((xPt m c c -∗ WP c (k' (rows c (xstg m c))) Q) -∗ WP c (.op (.load xM r.toLoadRect hl) k) Q) := by
  subst hr
  cases hk
  unfold xPt
  exact wp_load_rect 𝒱₀ (c : Thread nD τ) none Set.univ (m := xM) (r := rectP c) subset_rfl

theorem wp_keepRows {α : Type} {Q : α → sProp 𝕄} (k : PUnit → TProg F α) :
    iprop(xPt m c c ∗ slotAny c 0) ⊢ iprop(((xPt m c c ∗ slotFull m c 0) -∗ WP c (k ⟨⟩) Q)
      -∗ WP c (keepRows xM gM (Memref.isWhole_whole _) c >>= k) Q) := by
  unfold keepRows slotAny
  simp only [Prog.lift, Prog.bind_op, Prog.bind_ret]
  iintro ⟨Hx, ⟨%f, Hs⟩⟩ Hk
  iapply (wp_keep_load m c _ (unit_eq (off2_eq c) _ _) _ HEq.rfl) $$ Hx
  iintro Hx
  iapply (wp_load_rect 𝒱₀ (c : Thread nD τ) none Set.univ (m := gM) (r := rectG 0) subset_rfl) $$ Hs
  iintro Hs
  iapply (wp_store 𝒱₀ (c : Thread nD τ) none Set.univ (m := gM) (r := rectG 0) (Mk := Finset.univ) (S := (gM.access (rectG 0)).set) (subset_refl _)) $$ Hs
  iintro Hs
  iapply Hk
  isplitl [Hx]; · iexact Hx
  unfold slotFull
  iexists _
  isplitr
  rotate_left
  · iexact Hs
  · ipureintro
    rw [View.read_write_univ]
    unfold xv
    rw [from_zero]
    unfold k0_pay1 rows
    simp only [shapeCast_self]

/-! ## Fetching the weights -/

abbrev NW : ℕ := (tSlot tM 0).view.dmaCredit
theorem NW_pos : 0 < NW := View.dmaCredit_pos _ (by decide)

/-- The share of the weights the copies into buffer `k` read at. -/
abbrev wShare (k : Fin 6) : PosShare TreeShare := Transfers.shareTokN fullShare.left k.val

/-- Landing buffer `b` at any contents, -/
def bufAny (b : Fin 6) : sProp 𝕄 := iprop(∃ f, (tM.access (rectT b)).loc (c : Thread nD τ) ↦[(tM.access (rectT b)).set]{fullShare} f)
/-- and at the block of weights `v`. -/
def bufFull (b : Fin 6) (v : Vec F S1x512x2048 .f32) : sProp 𝕄 :=
  iprop(∃ f, ⌜(tM.access (rectT b)).read (Elt F) f = v⌝ ∗ (tM.access (rectT b)).loc (c : Thread nD τ) ↦[(tM.access (rectT b)).set]{fullShare} f)

abbrev wSet (i : ℕ) : Finset (Idx ((c : Thread nD τ).loc main_arg1)) := (wM.access (rectW c (colOf i) (slotOf i))).set

/-- Nothing is under way on buffer `b`. -/
def idle (b : Fin 6) : sProp 𝕄 :=
  iprop(bufAny (F := F) c b ∗ ((c : Thread nD τ).loc main_arg1 ↦[Finset.univ]{wShare b} wts m c) ∗ semVal ((c : Thread nD τ), .dma (wsem b)) 0)
/-- What step `i`'s copy delivers. -/
def fetched (i : ℕ) : sProp 𝕄 :=
  iprop(bufFull c (bufOf i) (wv m c i) ∗ ((c : Thread nD τ).loc main_arg1 ↦[wSet c i]{wShare (bufOf i)} wts m c))
/-- Step `i`'s copy is under way. -/
def busy (i : ℕ) : sProp 𝕄 :=
  iprop(Transfers.Flight EC (c : Thread nD τ) (.dma (wsem (bufOf i))) () NW (fetched m c i)
    ∗ ((c : Thread nD τ).loc main_arg1 ↦[Finset.univ \ wSet c i]{wShare (bufOf i)} wts m c))

theorem bufFull_of_write (b : Fin 6) (f : Buf (Elt F) ((tM.access (rectT b)).loc (c : Thread nD τ))) (x : Vec F S512x2048 .f32)
    {v : Vec F S1x512x2048 .f32} (h : v = shapeCast S1x512x2048 x shapeCasts_S512x2048_S1x512x2048) :
    ((tSlot tM b).view.loc (c : Thread nD τ) ↦[(tSlot tM b).view.set]{fullShare} (tSlot tM b).view.write (Elt F) f x Finset.univ)
      ⊢ bufFull c b v := by
  subst h
  unfold bufFull
  have hs : (tSlot tM b).view.set = (tM.access (rectT b)).set := View.set_reshape _ _
  rw [hs]
  iintro H
  iexists ((tSlot tM b).view.write (Elt F) f x Finset.univ)
  isplitr
  · ipureintro
    exact read_write_reshape (tM.access (rectT b)) squeezes_S1x512x2048_S512x2048.numel_eq f _
  iexact H

theorem wp_fetch (i : ℕ) {α : Type} {Q : α → sProp 𝕄} (k : PUnit → TProg F α) :
    idle m c (bufOf i) ⊢ iprop((busy m c i -∗ WP c (k ⟨⟩) Q) -∗ WP c (fetch wM tM cc0_scratch8 c i >>= k) Q) := by
  unfold fetch idle bufAny
  simp only [Prog.lift, Prog.bind_op, Prog.bind_ret]
  iintro ⟨⟨%f, Hb⟩, Hw, Hv⟩ Hk
  ihave Hw := (pointsTo_split_subset (Finset.subset_univ (wSet c i))).1 $$ Hw
  icases Hw with ⟨Hw, Hrest⟩
  have hs : (tSlot tM (bufOf i)).view.set = (tM.access (rectT (bufOf i))).set := View.set_reshape _ _
  iapply (Transfers.wp_dmaLocal EC 𝒱₀ (c : Thread nD τ) none (src := wPart wM c (colOf i) (slotOf i)) (dst := tSlot tM (bufOf i)) (sm := .dma (wsem (bufOf i)))
      (q := wShare (bufOf i)) (fs := wts m c) (Sd := (tSlot tM (bufOf i)).view.set) (fd := f) () NW rfl NW_pos (subset_refl _)) $$ [Hb Hw Hv]
  · isplitl [Hw]; · iexact Hw
    isplitl [Hb]; · rw [hs]; iexact Hb
    iexact Hv
  iintro Hf
  iapply Hk
  unfold busy
  isplitl [Hf]
  · iapply (Transfers.Flight_mono EC (c : Thread nD τ) (D' := fetched m c i) ?_) $$ Hf
    unfold fetched
    iintro ⟨Hb, Hw⟩
    isplitl [Hb]
    · iapply (bufFull_of_write c (bufOf i) f _ rfl) $$ Hb
    iexact Hw
  iexact Hrest

/-- The halves of the narrowed weights, both. -/
abbrev bPt (f : Buf (Elt F) ((c : Thread nD τ).loc cc0_scratch2)) : sProp 𝕄 := ((c : Thread nD τ).loc cc0_scratch2) ↦{fullShare} f
abbrev halfIs (f : Buf (Elt F) ((c : Thread nD τ).loc cc0_scratch2)) (b : Fin 2) (v : Vec F S1x512x2048 .bf16) : Prop :=
  (bM.access (rectB b)).read (Elt F) f = v

theorem half_disjoint : ∀ b b' : Fin 2, b ≠ b' → Disjoint (bM.access (rectB b)).set ((bM.access (rectB b')).setOn Finset.univ) := by
  intro b b' h
  show Disjoint (bM.access (rectB b)).set (bM.access (rectB b')).set
  rw [View.set_slice_whole, View.set_slice_whole, Finset.disjoint_left]
  intro x hx hx'
  rw [Rect.mem_set_unit] at hx hx'
  have h1 := hx 0; have h2 := hx' 0
  simp at h1 h2
  omega

/-- Writing half `b` with `v` leaves the other half. -/
theorem half_write (f : Buf (Elt F) ((c : Thread nD τ).loc cc0_scratch2)) (b : Fin 2) (v : Vec F S1x512x2048 .bf16) :
    halfIs c ((bM.access (rectB b)).write (Elt F) f v Finset.univ) b v
      ∧ ∀ b' w, b' ≠ b → halfIs c f b' w → halfIs c ((bM.access (rectB b)).write (Elt F) f v Finset.univ) b' w := by
  refine ⟨View.read_write_univ _ _, fun b' w hb h => ?_⟩
  unfold halfIs at h ⊢
  rw [← h]
  exact View.read_slice_write_slice_of_disjoint (v := bM.view) _ _ _ _ _ (half_disjoint b' b hb)

/-- What narrowing step `i`'s weights leaves. -/
def narrowed (f : Buf (Elt F) ((c : Thread nD τ).loc cc0_scratch2)) (i : ℕ) : sProp 𝕄 :=
  iprop(∃ f', ⌜halfIs c f' (halfOf i) (nv m c i) ∧ ∀ b' w, b' ≠ halfOf i → halfIs c f b' w → halfIs c f' b' w⌝ ∗ bPt c f')

theorem wp_narrow (i : ℕ) (f : Buf (Elt F) ((c : Thread nD τ).loc cc0_scratch2)) {α : Type} {Q : α → sProp 𝕄} (k : PUnit → TProg F α) :
    iprop(ctx m K ∗ debt c (owed c 7 7 0) ∗ busy m c i ∗ bPt c f)
      ⊢ iprop(((debt c (owed c 7 7 0) ∗ idle m c (bufOf i) ∗ narrowed m c f i) -∗ WP c (k ⟨⟩) Q)
        -∗ WP c (narrow wM tM bM (Memref.isWhole_whole _) cc0_scratch8 c i >>= k) Q) := by
  unfold narrow ctx debt busy
  simp only [Prog.lift, Prog.bind_op, Prog.bind_ret]
  iintro ⟨⟨-, #HL⟩, ⟨%W, HO⟩, ⟨Hf, Hrest⟩, Hb⟩ Hk
  iapply (Transfers.wp_waitLocalO EC 𝒱₀ (c : Thread nD τ) none (sem := wsem (bufOf i)) (srcw := wPart wM c (colOf i) (slotOf i)) (dstw := tSlot tM (bufOf i)) () (N := NW) rfl (D := fetched m c i) (O := owed c 7 7 0) (W := W)) $$ [Hf HO]
  · isplitl [Hf]; · iexact Hf
    isplitl [HO]; · iexact HO
    iapply (mayWait_zero c (.dma (wsem (bufOf i))) (by unfold lvAt; simp only [which_wsem]) 7 7 0); iexact HL
  unfold fetched bufFull
  iintro ⟨⟨⟨%g, %hg, Ht⟩, Hw⟩, Hv, HO⟩
  iapply (wp_load_rect 𝒱₀ (c : Thread nD τ) none Set.univ (m := tM) (r := rectT (bufOf i)) (subset_refl _)) $$ Ht
  iintro Ht
  iapply (wp_load_rect 𝒱₀ (c : Thread nD τ) none Set.univ (m := bM) (r := rectB (halfOf i)) (S := Finset.univ) (Finset.subset_univ _)) $$ Hb
  iintro Hb
  iapply (wp_store 𝒱₀ (c : Thread nD τ) none Set.univ (m := bM) (r := rectB (halfOf i)) (Mk := Finset.univ) (S := Finset.univ) (Finset.subset_univ _)) $$ Hb
  iintro Hb
  iapply Hk
  isplitl [HO]; · iexists _; iexact HO
  isplitl [Ht Hw Hrest Hv]
  · unfold idle bufAny
    isplitl [Ht]; · iexists _; iexact Ht
    isplitl [Hw Hrest]
    · iapply (pointsTo_split_subset (Finset.subset_univ (wSet c i))).2
      isplitl [Hw] <;> iassumption
    iexact Hv
  unfold narrowed
  rw [hg]
  iexists _
  isplitr
  rotate_left
  · iexact Hb
  · ipureintro
    exact half_write c f (halfOf i) _

/-! ## Multiplying -/

abbrev oPt (f : Buf (Elt F) ((c : Thread nD τ).loc cc0_stg1_0)) : sProp 𝕄 := ((c : Thread nD τ).loc cc0_stg1_0) ↦{fullShare} f
/-- The block of columns `n` of `f` is `v`. -/
abbrev tileIs (f : Buf (Elt F) ((c : Thread nD τ).loc cc0_stg1_0)) (n : Fin 4) (v : Vec F S512x2048 .f32) : Prop :=
  (oM.access (rectO n)).read (Elt F) f = v

theorem tile_disjoint : ∀ n n' : Fin 4, n ≠ n' → Disjoint (oM.access (rectO n)).set ((oM.access (rectO n')).setOn Finset.univ) := by
  intro b b' h
  show Disjoint (oM.access (rectO b)).set (oM.access (rectO b')).set
  rw [View.set_slice_whole, View.set_slice_whole, Finset.disjoint_left]
  intro x hx hx'
  rw [Rect.mem_set_unit] at hx hx'
  have h1 := hx 1; have h2 := hx' 1
  simp at h1 h2
  omega

/-- `f'` is `f` with its block of columns `n` replaced by `v`. -/
def tilePut (f f' : Buf (Elt F) ((c : Thread nD τ).loc cc0_stg1_0)) (n : Fin 4) (v : Vec F S512x2048 .f32) : Prop :=
  tileIs c f' n v ∧ ∀ n' w, n' ≠ n → tileIs c f n' w → tileIs c f' n' w

theorem tile_write (f : Buf (Elt F) ((c : Thread nD τ).loc cc0_stg1_0)) (n : Fin 4) (v : Vec F S512x2048 .f32) :
    tilePut c f ((oM.access (rectO n)).write (Elt F) f v Finset.univ) n v := by
  refine ⟨View.read_write_univ _ _, fun n' w hn h => ?_⟩
  unfold tileIs at h ⊢
  rw [← h]
  exact View.read_slice_write_slice_of_disjoint (v := oM.view) _ _ _ _ _ (tile_disjoint n' n hn)

/-- The products with block `n` put to `v`. -/
def oPut (f : Buf (Elt F) ((c : Thread nD τ).loc cc0_stg1_0)) (n : Fin 4) (v : Vec F S512x2048 .f32) : sProp 𝕄 :=
  iprop(∃ f', ⌜tilePut c f f' n v⌝ ∗ oPt c f')

theorem wp_product (n : Fin 4) (j : Fin 8) (b : Fin 2) (w : Vec F S1x512x2048 .bf16) (f : Buf (Elt F) ((c : Thread nD τ).loc cc0_scratch2))
    (hf : halfIs c f b w) (g : Buf (Elt F) ((c : Thread nD τ).loc cc0_stg1_0)) {α : Type} {Q : α → sProp 𝕄} (k : PUnit → TProg F α) :
    iprop(slotFull m c j ∗ bPt c f ∗ oPt c g)
      ⊢ iprop(((slotFull m c j ∗ bPt c f ∗ oPut c g n (k0_pay4 (xv m c j) w)) -∗ WP c (k ⟨⟩) Q)
        -∗ WP c (product oM gM bM n j b >>= k) Q) := by
  subst hf
  unfold product slotFull
  simp only [Prog.lift, Prog.bind_op, Prog.bind_ret]
  iintro ⟨⟨%x, %hx, Hs⟩, Hb, Ho⟩ Hk
  iapply (wp_load_rect 𝒱₀ (c : Thread nD τ) none Set.univ (m := gM) (r := rectG j) (subset_refl _)) $$ Hs
  iintro Hs
  iapply (wp_load_rect 𝒱₀ (c : Thread nD τ) none Set.univ (m := bM) (r := rectB b) (S := Finset.univ) (Finset.subset_univ _)) $$ Hb
  iintro Hb
  iapply (wp_load_rect 𝒱₀ (c : Thread nD τ) none Set.univ (m := oM) (r := rectO n) (S := Finset.univ) (Finset.subset_univ _)) $$ Ho
  iintro Ho
  iapply (wp_store 𝒱₀ (c : Thread nD τ) none Set.univ (m := oM) (r := rectO n) (Mk := Finset.univ) (S := Finset.univ) (Finset.subset_univ _)) $$ Ho
  iintro Ho
  iapply Hk
  isplitl [Hs]
  · iexists x
    isplitr; · ipureintro; exact hx
    iexact Hs
  isplitl [Hb]; · iexact Hb
  unfold oPut
  rw [hx]
  iexists _
  isplitr
  rotate_left
  · iexact Ho
  · ipureintro
    exact tile_write c g n _

theorem wp_accumulate (n : Fin 4) (j : Fin 8) (b : Fin 2) (w : Vec F S1x512x2048 .bf16) (f : Buf (Elt F) ((c : Thread nD τ).loc cc0_scratch2))
    (hf : halfIs c f b w) (g : Buf (Elt F) ((c : Thread nD τ).loc cc0_stg1_0)) (y : Vec F S512x2048 .f32) (hg : tileIs c g n y)
    {α : Type} {Q : α → sProp 𝕄} (k : PUnit → TProg F α) :
    iprop(slotFull m c j ∗ bPt c f ∗ oPt c g)
      ⊢ iprop(((slotFull m c j ∗ bPt c f ∗ oPut c g n (k0_pay78 (xv m c j) w y)) -∗ WP c (k ⟨⟩) Q)
        -∗ WP c (accumulate oM gM bM n j b >>= k) Q) := by
  subst hf; subst hg
  unfold accumulate slotFull
  simp only [Prog.lift, Prog.bind_op, Prog.bind_ret]
  iintro ⟨⟨%x, %hx, Hs⟩, Hb, Ho⟩ Hk
  iapply (wp_load_rect 𝒱₀ (c : Thread nD τ) none Set.univ (m := gM) (r := rectG j) (subset_refl _)) $$ Hs
  iintro Hs
  iapply (wp_load_rect 𝒱₀ (c : Thread nD τ) none Set.univ (m := bM) (r := rectB b) (S := Finset.univ) (Finset.subset_univ _)) $$ Hb
  iintro Hb
  iapply (wp_load_rect 𝒱₀ (c : Thread nD τ) none Set.univ (m := oM) (r := rectO n) (S := Finset.univ) (Finset.subset_univ _)) $$ Ho
  iintro Ho
  iapply (wp_load_rect 𝒱₀ (c : Thread nD τ) none Set.univ (m := oM) (r := rectO n) (S := Finset.univ) (Finset.subset_univ _)) $$ Ho
  iintro Ho
  iapply (wp_store 𝒱₀ (c : Thread nD τ) none Set.univ (m := oM) (r := rectO n) (Mk := Finset.univ) (S := Finset.univ) (Finset.subset_univ _)) $$ Ho
  iintro Ho
  iapply Hk
  isplitl [Hs]
  · iexists x
    isplitr; · ipureintro; exact hx
    iexact Hs
  isplitl [Hb]; · iexact Hb
  unfold oPut
  rw [hx]
  iexists _
  isplitr
  rotate_left
  · iexact Ho
  · ipureintro
    exact tile_write c g n _

/-! ## The magnitudes and the quantiser -/

theorem row0_write (a : Buf (Elt F) ((aM.access (rectA 0)).loc (c : Thread nD τ))) (v : Vec F S1x128 .f32) (h : v = lmax m c) :
    ((aM.access (rectA 0)).loc (c : Thread nD τ) ↦[(aM.access (rectA 0)).set]{fullShare} (aM.access (rectA 0)).write (Elt F) a v Finset.univ : sProp 𝕄)
      = ((aM.access (rectA 0)).loc (c : Thread nD τ) ↦[(aM.access (rectA 0)).set]{fullShare} lmaxBuf m c) := by
  subst h
  refine pointsTo_congr fun i hi => ?_
  obtain ⟨x, -, rfl⟩ := Finset.mem_map.mp hi
  unfold lmaxBuf
  rw [View.write_emb_of_mem _ _ (Finset.mem_univ _), View.write_emb_of_mem _ _ (Finset.mem_univ _)]

theorem wp_localMax (g : Buf (Elt F) ((c : Thread nD τ).loc cc0_stg1_0)) (hg : ∀ n : Fin 4, tileIs c g n (yv m c n.val 7))
    {α : Type} {Q : α → sProp 𝕄} (k : PUnit → TProg F α) :
    iprop(oPt c g ∗ rowAny c 0) ⊢ iprop(((oPt c g ∗ ownRow m c fullShare) -∗ WP c (k ⟨⟩) Q) -∗ WP c (localMax oM aM >>= k) Q) := by
  unfold localMax rowAny
  simp only [Prog.lift, Prog.bind_op, Prog.bind_ret]
  iintro ⟨Ho, ⟨%a, Ha⟩⟩ Hk
  iapply (wp_load_rect 𝒱₀ (c : Thread nD τ) none Set.univ (m := oM) (r := rectO 0) (S := Finset.univ) (Finset.subset_univ _)) $$ Ho
  iintro Ho
  iapply (wp_load_rect 𝒱₀ (c : Thread nD τ) none Set.univ (m := oM) (r := rectO 1) (S := Finset.univ) (Finset.subset_univ _)) $$ Ho
  iintro Ho
  iapply (wp_load_rect 𝒱₀ (c : Thread nD τ) none Set.univ (m := oM) (r := rectO 2) (S := Finset.univ) (Finset.subset_univ _)) $$ Ho
  iintro Ho
  iapply (wp_load_rect 𝒱₀ (c : Thread nD τ) none Set.univ (m := oM) (r := rectO 3) (S := Finset.univ) (Finset.subset_univ _)) $$ Ho
  iintro Ho
  iapply (wp_load_rect 𝒱₀ (c : Thread nD τ) none Set.univ (m := aM) (r := rectA 0) (subset_refl _)) $$ Ha
  iintro Ha
  iapply (wp_store 𝒱₀ (c : Thread nD τ) none Set.univ (m := aM) (r := rectA 0) (Mk := Finset.univ) (S := (aM.access (rectA 0)).set) (subset_refl _)) $$ Ha
  iintro Ha
  rw [hg 0, hg 1, hg 2, hg 3]
  iapply Hk
  isplitl [Ho]; · iexact Ho
  unfold ownRow
  iapply (Entails.of_eq (row0_write m c a _ (by unfold lmax; rfl))) $$ Ha

theorem wp_quantise (n : Fin 4) (a : Vec F S8x128 .f32) (g : Buf (Elt F) ((c : Thread nD τ).loc cc0_stg1_0)) (y : Vec F S512x2048 .f32) (hg : tileIs c g n y)
    {α : Type} {Q : α → sProp 𝕄} (k : PUnit → TProg F α) :
    oPt c g ⊢ iprop((oPut c g n (k0_pay84 a y) -∗ WP c (k ⟨⟩) Q) -∗ WP c (quantise oM a n >>= k) Q) := by
  subst hg
  unfold quantise
  simp only [Prog.lift, Prog.bind_op, Prog.bind_ret]
  iintro Ho Hk
  iapply (wp_load_rect 𝒱₀ (c : Thread nD τ) none Set.univ (m := oM) (r := rectO n) (S := Finset.univ) (Finset.subset_univ _)) $$ Ho
  iintro Ho
  iapply (wp_load_rect 𝒱₀ (c : Thread nD τ) none Set.univ (m := oM) (r := rectO n) (S := Finset.univ) (Finset.subset_univ _)) $$ Ho
  iintro Ho
  iapply (wp_store 𝒱₀ (c : Thread nD τ) none Set.univ (m := oM) (r := rectO n) (Mk := Finset.univ) (S := Finset.univ) (Finset.subset_univ _)) $$ Ho
  iintro Ho
  iapply Hk
  unfold oPut
  iexists _
  isplitr
  rotate_left
  · iexact Ho
  · ipureintro
    exact tile_write c g n _

end Cert.KernelIdeal.Run
end
-- ==== Proof.Run.Loops.lean ====
/- The loop over the steps of the product: which weights are under way, which rows have arrived, and what each block of
   columns holds before step `i`. -/
module

public import proofs.«01_k».proof.Proof.Run.Turns

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The weights under way -/

/-- The copies of the steps `n ≤ s < p` are under way, and the other buffers idle. -/
def bufs (n p : ℕ) : sProp 𝕄 :=
  iprop(bigSep (Finset.Ico n p) (busy m c) ∗ bigSep (Finset.Ico p (n + 6)) (fun s => idle m c (bufOf s)))

theorem bufOf_add_six (i : ℕ) : bufOf (i + 6) = bufOf i := by unfold bufOf; apply Fin.ext; simp only; omega

theorem wp_fetchNext {n p : ℕ} (hn : n ≤ p) (hp : p < n + 6) {α : Type} {Q : α → sProp 𝕄} (k : PUnit → TProg F α) :
    bufs m c n p ⊢ iprop((bufs m c n (p + 1) -∗ WP c (k ⟨⟩) Q) -∗ WP c (fetch wM tM cc0_scratch8 c p >>= k) Q) := by
  unfold bufs
  rw [bigSep_Ico_succ_bot hp, bigSep_Ico_succ_top hn]
  iintro ⟨Hb, Hi, Hrest⟩ Hk
  iapply (wp_fetch m c p) $$ Hi
  iintro Hn
  iapply Hk
  isplitl [Hb Hn]
  · isplitl [Hn] <;> iassumption
  iexact Hrest

theorem wp_narrowNext {n p : ℕ} (hn : n < p) (hp : p ≤ n + 6) (f : Buf (Elt F) ((c : Thread nD τ).loc cc0_scratch2)) {α : Type} {Q : α → sProp 𝕄} (k : PUnit → TProg F α) :
    iprop(ctx m K ∗ debt c (owed c 7 7 0) ∗ bufs m c n p ∗ bPt c f)
      ⊢ iprop(((debt c (owed c 7 7 0) ∗ bufs m c (n + 1) p ∗ narrowed m c f n) -∗ WP c (k ⟨⟩) Q)
        -∗ WP c (narrow wM tM bM (Memref.isWhole_whole _) cc0_scratch8 c n >>= k) Q) := by
  unfold bufs
  rw [bigSep_Ico_succ_bot hn, show n + 1 + 6 = n + 6 + 1 by omega, bigSep_Ico_succ_top hp, bufOf_add_six]
  iintro ⟨#HR, HO, ⟨⟨Hb, Hrest⟩, Hi⟩, Hf⟩ Hk
  iapply (wp_narrow m K c n f) $$ [HO Hb Hf]
  · isplitr; · iexact HR
    isplitl [HO]; · iexact HO
    isplitl [Hb] <;> iassumption
  iintro ⟨HO, Hn, Hf⟩
  iapply Hk
  isplitl [HO]; · iexact HO
  isplitr [Hf]
  · isplitl [Hrest]; · iexact Hrest
    isplitl [Hn] <;> iassumption
  iexact Hf

/-! ## The rows that have arrived -/

/-- The slot of the `q`-th group of four steps. -/
abbrev gslot (q : ℕ) : Fin 8 := slotOf (4 * q)

theorem gslot_ne_zero {q : ℕ} (h : 1 ≤ q) (h' : q < 8) : gslot q ≠ 0 := by
  intro hh; have := congrArg Fin.val hh; unfold gslot slotOf at this; simp at this; omega
theorem gslot_of (i : ℕ) : gslot (i / 4) = slotOf i := by unfold gslot slotOf; apply Fin.ext; simp only; omega

/-- What the wait for the `q`-th group's rows uses up. -/
def due (q : ℕ) : sProp 𝕄 := iprop(cred (tallyAt (cell c 1 (gslot q)) () (amt 1)) ∗ at_ (cell c 1 (gslot q)) 0)

/-- The rows of the first `q` groups are there. -/
def gathered (q : ℕ) : sProp 𝕄 :=
  iprop(bigSep (Finset.range q) (fun q => slotFull m c (gslot q)) ∗ bigSep (Finset.Ico q 8) (due c)
    ∗ bigSep (Finset.Ico 1 q) (fun q => at_ (cell c 1 (gslot q)) 1))

theorem wp_awaitNext {q : ℕ} (h : 1 ≤ q) (h' : q < 8) (s : Fin 8) (hs : s = gslot q) {α : Type} {Q : α → sProp 𝕄} (k : PUnit → TProg F α) :
    iprop(ctx m K ∗ debt c (owed c 7 7 0) ∗ gathered m c q)
      ⊢ iprop(((debt c (owed c 7 7 0) ∗ gathered m c (q + 1)) -∗ WP c (k ⟨⟩) Q)
        -∗ WP c (awaitRows xM (Memref.isWhole_whole _) gM (Memref.isWhole_whole _) cc0_scratch5 s >>= k) Q) := by
  subst hs
  unfold gathered awaitRows
  simp only [Prog.lift, Prog.bind_op, Prog.bind_ret]
  rw [bigSep_Ico_succ_bot h', bigSep_Ico_succ_top h, bigSep_range_succ]
  unfold due
  iintro ⟨#HR, HO, Hs, ⟨⟨Hc, Ha⟩, Hrest⟩, Hd⟩ Hk
  iapply (wp_landed m K c 1 (gslot q) (gslot_ne_zero h h') (owed c 7 7 0) (mayWait_rows c _) (dstw := gSlot gM (gslot q)) ((amount_slot (gslot q) 0).trans amt_rows.symm)) $$ [HO Hc Ha]
  · isplitr; · iexact HR
    isplitl [HO]; · iexact HO
    isplitl [Hc] <;> iassumption
  unfold landPay
  iintro ⟨HO, Ha, Hn⟩
  iapply Hk
  isplitl [HO]; · iexact HO
  isplitl [Hs Hn]
  · isplitl [Hn] <;> iassumption
  isplitl [Hrest]; · iexact Hrest
  isplitl [Ha] <;> iassumption

/-! ## The blocks of columns -/

/-- Before step `i`, the block of columns `n` holds the sum of the terms of the steps done. -/
def tilesAt (i : ℕ) (g : Buf (Elt F) ((c : Thread nD τ).loc cc0_stg1_0)) : Prop :=
  ∀ (n : Fin 4) (k : ℕ), 4 * k + n.val < i → i ≤ 4 * (k + 1) + n.val → tileIs c g n (yv m c n.val k)

theorem tilesAt_succ {i : ℕ} {g g' : Buf (Elt F) ((c : Thread nD τ).loc cc0_stg1_0)} (h : tilesAt m c i g)
    {v : Vec F S512x2048 .f32} (hv : v = yv m c (i % 4) (i / 4)) (h' : tilePut c g g' (colOf i) v) : tilesAt m c (i + 1) g' := by
  intro n k h1 h2
  by_cases hn : n = colOf i
  · have e : n.val = i % 4 := congrArg Fin.val hn
    have hk : k = i / 4 := by omega
    rw [hk, e, ← hv, hn]
    exact h'.1
  · have e : n.val ≠ i % 4 := fun hh => hn (Fin.ext hh)
    exact h'.2 n _ hn (h n k (by omega) (by omega))

/-- The products before step `i`. -/
def outs (i : ℕ) : sProp 𝕄 := iprop(∃ g, ⌜tilesAt m c i g⌝ ∗ oPt c g)

/-- The half of step `i` holds its narrowed weights. -/
def ready (i : ℕ) : sProp 𝕄 := iprop(∃ f, ⌜i < 32 → halfIs c f (halfOf i) (nv m c i)⌝ ∗ bPt c f)

/-! ## A step -/

def stepInv (i : ℕ) : sProp 𝕄 :=
  iprop(ctx m K ∗ debt c (owed c 7 7 0) ∗ bufs m c (min (i + 1) 32) (min (i + 5) 32) ∗ ready m c i
    ∗ gathered m c (max 1 ((i + 3) / 4)) ∗ outs m c i)

theorem wp_stepFetch (i : ℕ) (hi : i < 32) {α : Type} {Q : α → sProp 𝕄} (k : PUnit → TProg F α) :
    bufs m c (min (i + 1) 32) (min (i + 5) 32) ⊢ iprop((bufs m c (min (i + 1) 32) (min (i + 6) 32) -∗ WP c (k ⟨⟩) Q)
      -∗ WP c ((if i + 5 < 32 then fetch wM tM cc0_scratch8 c (i + 5) else pure ⟨⟩) >>= k) Q) := by
  by_cases h : i + 5 < 32
  · rw [if_pos h, show min (i + 1) 32 = i + 1 by omega, show min (i + 5) 32 = i + 5 by omega, show min (i + 6) 32 = i + 5 + 1 by omega]
    exact wp_fetchNext m c (by omega) (by omega) k
  · rw [if_neg h, show min (i + 5) 32 = 32 by omega, show min (i + 6) 32 = 32 by omega]
    iintro H Hk
    iapply Hk $$ H

theorem halfOf_succ_ne (i : ℕ) : halfOf i ≠ halfOf (i + 1) := by
  intro h; have := congrArg Fin.val h; unfold halfOf at this; simp at this; omega

/-- The half of step `i` is ready, and of the step after it. -/
def readyTwo (i : ℕ) : sProp 𝕄 :=
  iprop(∃ f, ⌜halfIs c f (halfOf i) (nv m c i) ∧ (i + 1 < 32 → halfIs c f (halfOf (i + 1)) (nv m c (i + 1)))⌝ ∗ bPt c f)

theorem wp_stepNarrow (i : ℕ) (hi : i < 32) {α : Type} {Q : α → sProp 𝕄} (k : PUnit → TProg F α) :
    iprop(ctx m K ∗ debt c (owed c 7 7 0) ∗ bufs m c (min (i + 1) 32) (min (i + 6) 32) ∗ ready m c i)
      ⊢ iprop(((debt c (owed c 7 7 0) ∗ bufs m c (min (i + 2) 32) (min (i + 6) 32) ∗ readyTwo m c i) -∗ WP c (k ⟨⟩) Q)
      -∗ WP c ((if i + 1 < 32 then narrow wM tM bM (Memref.isWhole_whole _) cc0_scratch8 c (i + 1) else pure ⟨⟩) >>= k) Q) := by
  unfold ready readyTwo
  by_cases h : i + 1 < 32
  · rw [if_pos h, show min (i + 1) 32 = i + 1 by omega, show min (i + 2) 32 = i + 1 + 1 by omega]
    iintro ⟨#HR, HO, Hb, ⟨%f, %hf, Hf⟩⟩ Hk
    iapply (wp_narrowNext m K c (n := i + 1) (p := min (i + 6) 32) (by omega) (by omega) f) $$ [HO Hb Hf]
    · isplitr; · iexact HR
      isplitl [HO]; · iexact HO
      isplitl [Hb] <;> iassumption
    unfold narrowed
    iintro ⟨HO, Hb, ⟨%f', %hf', Hf⟩⟩
    iapply Hk
    isplitl [HO]; · iexact HO
    isplitl [Hb]; · iexact Hb
    iexists f'
    isplitr
    · ipureintro
      exact ⟨hf'.2 _ _ (halfOf_succ_ne i) (hf hi), fun _ => hf'.1⟩
    iexact Hf
  · rw [if_neg h, show min (i + 1) 32 = 32 by omega, show min (i + 2) 32 = 32 by omega]
    iintro ⟨-, HO, Hb, ⟨%f, %hf, Hf⟩⟩ Hk
    iapply Hk
    isplitl [HO]; · iexact HO
    isplitl [Hb]; · iexact Hb
    iexists f
    isplitr
    · ipureintro
      exact ⟨hf hi, fun h' => absurd h' h⟩
    iexact Hf

theorem wp_stepAwait (i : ℕ) (hi : i < 32) {α : Type} {Q : α → sProp 𝕄} (k : PUnit → TProg F α) :
    iprop(ctx m K ∗ debt c (owed c 7 7 0) ∗ gathered m c (max 1 ((i + 3) / 4)))
      ⊢ iprop(((debt c (owed c 7 7 0) ∗ gathered m c (i / 4 + 1)) -∗ WP c (k ⟨⟩) Q)
      -∗ WP c ((if 4 ≤ i ∧ i % 4 = 0 then awaitRows xM (Memref.isWhole_whole _) gM (Memref.isWhole_whole _) cc0_scratch5 (slotOf i) else pure ⟨⟩) >>= k) Q) := by
  by_cases h : 4 ≤ i ∧ i % 4 = 0
  · rw [if_pos h, show max 1 ((i + 3) / 4) = i / 4 by omega]
    exact wp_awaitNext m K c (by omega) (by omega) _ (gslot_of i).symm k
  · rw [if_neg h, show max 1 ((i + 3) / 4) = i / 4 + 1 by omega]
    iintro ⟨-, HO, H⟩ Hk
    iapply Hk
    isplitl [HO] <;> iassumption

theorem wp_stepMul (i : ℕ) (hi : i < 32) (f : Buf (Elt F) ((c : Thread nD τ).loc cc0_scratch2)) (hf : halfIs c f (halfOf i) (nv m c i))
    {α : Type} {Q : α → sProp 𝕄} (k : PUnit → TProg F α) :
    iprop(gathered m c (i / 4 + 1) ∗ bPt c f ∗ outs m c i)
      ⊢ iprop(((gathered m c (i / 4 + 1) ∗ bPt c f ∗ outs m c (i + 1)) -∗ WP c (k ⟨⟩) Q)
      -∗ WP c ((if i < 4 then product oM gM bM (colOf i) (slotOf i) (halfOf i) else accumulate oM gM bM (colOf i) (slotOf i) (halfOf i)) >>= k) Q) := by
  unfold gathered outs
  rw [bigSep_range_succ, gslot_of]
  by_cases h : i < 4
  · rw [if_pos h]
    iintro ⟨⟨⟨Hs, Hr⟩, Hrest⟩, Hf, ⟨%g, %hg, Ho⟩⟩ Hk
    iapply (wp_product m c (colOf i) (slotOf i) (halfOf i) _ f hf g) $$ [Hs Hf Ho]
    · isplitl [Hs]; · iexact Hs
      isplitl [Hf] <;> iassumption
    unfold oPut
    iintro ⟨Hs, Hf, ⟨%g', %hg', Ho⟩⟩
    iapply Hk
    isplitl [Hs Hr Hrest]
    · isplitl [Hs Hr]
      · isplitl [Hs] <;> iassumption
      iexact Hrest
    isplitl [Hf]; · iexact Hf
    iexists g'
    isplitr
    · ipureintro
      refine tilesAt_succ m c hg ?_ hg'
      rw [show i / 4 = 0 by omega, show i % 4 = i by omega]
      rfl
    iexact Ho
  · rw [if_neg h]
    iintro ⟨⟨⟨Hs, Hr⟩, Hrest⟩, Hf, ⟨%g, %hg, Ho⟩⟩ Hk
    iapply (wp_accumulate m c (colOf i) (slotOf i) (halfOf i) _ f hf g _ (hg (colOf i) (i / 4 - 1) (by unfold colOf; simp only; omega) (by unfold colOf; simp only; omega))) $$ [Hs Hf Ho]
    · isplitl [Hs]; · iexact Hs
      isplitl [Hf] <;> iassumption
    unfold oPut
    iintro ⟨Hs, Hf, ⟨%g', %hg', Ho⟩⟩
    iapply Hk
    isplitl [Hs Hr Hrest]
    · isplitl [Hs Hr]
      · isplitl [Hs] <;> iassumption
      iexact Hrest
    isplitl [Hf]; · iexact Hf
    iexists g'
    isplitr
    · ipureintro
      refine tilesAt_succ m c hg ?_ hg'
      obtain ⟨k, hk⟩ : ∃ k, i / 4 = k + 1 := ⟨i / 4 - 1, by omega⟩
      rw [hk, show yv m c (i % 4) (k + 1) = k0_pay78 (xv m c (slotOf (4 * (k + 1) + i % 4))) (nv m c (4 * (k + 1) + i % 4)) (yv m c (i % 4) k) from rfl,
        show 4 * (k + 1) + i % 4 = i by omega]
      rfl
    iexact Ho

theorem wp_step {α : Type} {Q : α → sProp 𝕄} (i : Fin 32) (k : PUnit → TProg F α) :
    stepInv m K c i.val ⊢ iprop((stepInv m K c (i.val + 1) -∗ WP c (k ⟨⟩) Q)
      -∗ WP c (step xM (Memref.isWhole_whole _) wM oM gM (Memref.isWhole_whole _) tM bM (Memref.isWhole_whole _) cc0_scratch5 cc0_scratch8 c i >>= k) Q) := by
  unfold stepInv step
  simp only [Prog.bind_assoc]
  rw [show i.val + 1 + 1 = i.val + 2 by omega, show i.val + 1 + 5 = i.val + 6 by omega,
    show max 1 ((i.val + 1 + 3) / 4) = i.val / 4 + 1 by omega]
  iintro ⟨#HR, HO, Hb, Hf, Hg, Ho⟩ Hk
  iapply (wp_stepFetch m c i.val i.isLt) $$ Hb
  iintro Hb
  iapply (wp_stepNarrow m K c i.val i.isLt) $$ [HO Hb Hf]
  · isplitr; · iexact HR
    isplitl [HO]; · iexact HO
    isplitl [Hb] <;> iassumption
  iintro ⟨HO, Hb, Hf⟩
  iapply (wp_stepAwait m K c i.val i.isLt) $$ [HO Hg]
  · isplitr; · iexact HR
    isplitl [HO] <;> iassumption
  iintro ⟨HO, Hg⟩
  unfold readyTwo ready
  icases Hf with ⟨%f, %hf, Hf⟩
  iapply (wp_stepMul m c i.val i.isLt f hf.1) $$ [Hg Hf Ho]
  · isplitl [Hg]; · iexact Hg
    isplitl [Hf] <;> iassumption
  iintro ⟨Hg, Hf, Ho⟩
  iapply Hk
  isplitr; · iexact HR
  isplitl [HO]; · iexact HO
  isplitl [Hb]; · iexact Hb
  isplitl [Hf]
  · iexists f
    isplitr; · ipureintro; exact hf.2
    iexact Hf
  isplitl [Hg] <;> iassumption

end Cert.KernelIdeal.Run
end
-- ==== Proof.Run.Maxes.lean ====
/- Exchanging the largest magnitudes, reading them all, quantising, and the last waits. -/
module

public import proofs.«01_k».proof.Proof.Run.Loops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Going round the circle -/

theorem all_there : (Finset.univ : Finset (Fin 8)) = insert 0 ((Finset.range 7).image there) := by decide +kernel
theorem all_back : (Finset.univ : Finset (Fin 8)) = insert 0 ((Finset.range 7).image back) := by decide +kernel
theorem all_gslot : (Finset.univ : Finset (Fin 8)) = (Finset.range 8).image gslot := by decide +kernel
theorem all_peer : ∀ c : Dev nD, (Finset.univ : Finset (Dev nD)) = insert c ((Finset.range 7).image (peer c)) := by decide +kernel

theorem there_inj : Set.InjOn there (Finset.range 7 : Finset ℕ) := by
  intro a ha b hb h
  have := congrArg Fin.val h; unfold there at this
  simp only [Finset.coe_range, Set.mem_Iio] at ha hb this; omega
theorem back_inj : Set.InjOn back (Finset.range 7 : Finset ℕ) := by
  intro a ha b hb h
  have := congrArg Fin.val h; unfold back at this
  simp only [Finset.coe_range, Set.mem_Iio] at ha hb this; omega
theorem gslot_inj : Set.InjOn gslot (Finset.range 8 : Finset ℕ) := by
  intro a ha b hb h
  have := congrArg Fin.val h; unfold gslot slotOf at this
  simp only [Finset.coe_range, Set.mem_Iio] at ha hb this; omega
theorem peer_inj (c : Dev nD) : Set.InjOn (peer c) (Finset.range 7 : Finset ℕ) := by
  intro a ha b hb h
  have := congrArg Fin.val h; unfold peer at this
  have hc := c.isLt; change c.val < 8 at hc
  simp only [Finset.coe_range, Set.mem_Iio] at ha hb this; omega
theorem peer_ne (c : Dev nD) {r : ℕ} (h : r < 7) : peer c r ≠ c := by
  intro hh; have := congrArg Fin.val hh; unfold peer at this
  have hc := c.isLt; change c.val < 8 at hc
  simp only at this; omega

theorem bigSep_image' {ι κ : Type} [DecidableEq κ] {S : Finset ι} {f : ι → κ} (h : Set.InjOn f S) (Φ : κ → sProp 𝕄) :
    bigSep (S.image f) Φ = bigSep S fun i => Φ (f i) :=
  Finset.fold_image h

theorem sep_there (Φ : Fin 8 → sProp 𝕄) : bigSep Finset.univ Φ = iprop(Φ 0 ∗ bigSep (Finset.range 7) fun r => Φ (there r)) := by
  rw [all_there, bigSep_insert (by decide +kernel), bigSep_image' there_inj]; rfl
theorem sep_back (Φ : Fin 8 → sProp 𝕄) : bigSep Finset.univ Φ = iprop(Φ 0 ∗ bigSep (Finset.range 7) fun r => Φ (back r)) := by
  rw [all_back, bigSep_insert (by decide +kernel), bigSep_image' back_inj]; rfl
theorem sep_gslot (Φ : Fin 8 → sProp 𝕄) : bigSep Finset.univ Φ = bigSep (Finset.range 8) fun q => Φ (gslot q) := by
  rw [all_gslot, bigSep_image' gslot_inj]
theorem sep_peer (c : Dev nD) (Φ : Dev nD → sProp 𝕄) : bigSep Finset.univ Φ = iprop(Φ c ∗ bigSep (Finset.range 7) fun r => Φ (peer c r)) := by
  rw [all_peer c, bigSep_insert ?_, bigSep_image' (peer_inj c)]; · rfl
  intro h
  obtain ⟨r, hr, e⟩ := Finset.mem_image.mp h
  exact peer_ne c (Finset.mem_range.mp hr) e

/-! ## Sending the magnitude -/

abbrev rowShare (r : ℕ) : PosShare TreeShare := Transfers.shareTokN fullShare r

/-- What sending peer `r` the magnitude uses up. -/
def sendMaxRes (r : ℕ) : sProp 𝕄 :=
  iprop(ownRow m c (rowShare r) ∗ rowAny (peer c r) (back r) ∗ dutyTok ER (cell c 2 (there r)) 0 0 ∗ dutyTok ER (cell (peer c r) 3 (back r)) 0 0)

theorem rowFull_of_write (p : Dev nD) (j : Fin 8) (f : Buf (Elt F) ((aM.access (rectA j)).loc (p : Thread nD τ)))
    (x : Vec F S1x128 .f32) (h : x = lmax m (from_ p j)) :
    ((aRow aM j).view.loc (p : Thread nD τ) ↦[(aRow aM j).view.set]{fullShare} (aRow aM j).view.write (Elt F) f x Finset.univ)
      ⊢ rowFull m p j := by
  unfold rowFull
  iintro H
  iexists ((aRow aM j).view.write (Elt F) f x Finset.univ)
  isplitr
  · ipureintro
    subst h
    exact View.read_write_univ _ _
  iexact H

theorem read_lmaxBuf : (aRow aM 0).view.read (Elt F) (lmaxBuf m c) = lmax m c := View.read_write_univ _ _

set_option maxHeartbeats 4000000 in
theorem wp_send_max (n : Dev nD) {r : ℕ} (hr : r < 7) (hn : n = peer c r)
    {hsc : (aRow aM (back r) : Memref sig (Dev.tc n : Thread nD τ).2.kind .vmem S1x128 .f32).view.ref.isScScratch = false}
    {hsrc : (aRow aM 0).view.WordExact} {hdst : (aRow aM (back r)).view.WordExact}
    {hsem : DmaTarget.Typed .vmem (.dma (hsem 3 (back r))) (.remote (Dev.tc n : Thread nD τ) (aRow aM (back r)) (.dma (hsem 2 (there r))) hsc)}
    {α : Type} {Q : α → sProp 𝕄} {k : PUnit → TProg F α} :
    iprop(ctx m K ∗ debt c (owed c 7 7 r) ∗ sendMaxRes m c r)
      ⊢ iprop(((debt c (owed c 7 7 (r + 1)) ∗ sentRes c 2 r) -∗ WP c (k ⟨⟩) Q)
        -∗ WP c (.op (.enqueueDma (aRow aM 0) (.remote (Dev.tc n : Thread nD τ) (aRow aM (back r)) (.dma (Run.hsem 2 (there r))) hsc) (.dma (Run.hsem 3 (back r))) hsrc hdst hsem) k) Q) := by
  subst hn
  unfold sendMaxRes sentRes ctx debt rowAny ownRow
  iintro ⟨⟨#HR, -⟩, ⟨%W, HO⟩, Hx, ⟨%f, Hs⟩, Ht₁, Ht₂⟩ Hk
  ihave #HI₁ := (records_inv m K (c, some (2, there r))) $$ HR
  ihave #HI₂ := (records_inv m K (peer c r, some (3, back r))) $$ HR
  ihave #Hr₁ := (records_reached m K (c, some (2, there r))) $$ HR
  ihave #Hr₂ := (records_reached m K (peer c r, some (3, back r))) $$ HR
  iapply (Rounds.wp_send_pointsTo 𝒱₀ ER (Rd m) (c : Thread nD τ) none (src := aRow aM 0) (c' := (peer c r : Thread nD τ)) (dst := aRow aM (back r)) (κ₁ := K (c, some (2, there r))) (κ₂ := K (peer c r, some (3, back r)))
    (r₁ := 0) (r₂ := 0) (d₁ := 0) (d₂ := 0) (fs := lmaxBuf m c) (fd := f) (q := rowShare r)
    (by rw [duties_cell m c 2 (there_ne_zero hr)]; exact Finset.mem_singleton_self _)
    (by rw [duties_cell m (peer c r) 3 (back_ne_zero hr)]; exact Finset.mem_singleton_self _)
    () () (amt 3) ((amount_row _ _).trans amt_max.symm) (amount_cell m c 2 _ 0 0) (amount_cell m (peer c r) 3 _ 0 0) (owed c 7 7 (r + 1)) (owed_max c 7 7 hr) (W := W)
    (by rw [payload_cell]; unfold landPay ownRow; rw [show (there r).val - 1 = r by unfold there; simp only; omega])
    (by rw [payload_cell]; exact rowFull_of_write m (peer c r) (back r) f _ (by rw [from_back c hr]; exact read_lmaxBuf m c))) $$ [HO Hx Hs Ht₁ Ht₂]
  · isplitr; · iexact HI₁
    isplitr; · iexact HI₂
    isplitl [Hx]; · iexact Hx
    isplitl [Hs]; · iexact Hs
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists _; iexact HO
  iexact Hc

def sendMaxInv (u : ℕ) : sProp 𝕄 :=
  iprop(ctx m K ∗ debt c (owed c 7 7 u) ∗ bigSep (Finset.Ico u 7) (sendMaxRes m c) ∗ bigSep (Finset.range u) (sentRes c 2))

theorem wp_sendMax {α : Type} {Q : α → sProp 𝕄} (r : Fin 7) (k : PUnit → TProg F α) :
    sendMaxInv m K c r.val ⊢ iprop((sendMaxInv m K c (r.val + 1) -∗ WP c (k ⟨⟩) Q)
      -∗ WP c (sendMax aM cc0_scratch6 cc0_scratch7 c r >>= k) Q) := by
  unfold sendMaxInv sendMax
  simp only [Prog.lift, Prog.bind_op, Prog.bind_ret]
  rw [bigSep_Ico_succ_bot r.isLt, bigSep_range_succ]
  iintro ⟨#HR, HO, ⟨Hr, Hrest⟩, Hdone⟩ Hk
  iapply (wp_send_max m K c _ r.isLt (maxDev_eq c r)) $$ [HO Hr]
  · isplitr; · iexact HR
    isplitl [HO] <;> iassumption
  iintro ⟨HO, Hc⟩
  iapply Hk
  isplitr; · iexact HR
  isplitl [HO]; · iexact HO
  isplitl [Hrest]; · iexact Hrest
  isplitl [Hc] <;> iassumption

/-! ## Waiting for the others' -/

theorem mayWait_end (sm : SemLoc sig) : (levAts L lv : sProp 𝕄) ⊢ MayWait (c : Thread nD τ) sm () (owed c 7 7 7) :=
  mayWait_of_lt c sm (lvAt sm) le_rfl _ fun g u h => by rw [owed_end] at h; exact absurd h (Nat.lt_irrefl 0)

/-- What waiting on semaphore `j` of array `a` uses up. -/
def dueAt (a : Fin 4) (j : Fin 8) : sProp 𝕄 := iprop(cred (tallyAt (cell c a j) () (amt a)) ∗ at_ (cell c a j) 0)
/-- and what it leaves. -/
def doneAt (a : Fin 4) (j : Fin 8) : sProp 𝕄 := iprop(at_ (cell c a j) 1 ∗ landPay m c a j)

def awaitInv (u : ℕ) : sProp 𝕄 :=
  iprop(ctx m K ∗ debt c (owed c 7 7 7) ∗ bigSep (Finset.Ico u 7) (fun r => dueAt c 3 (there r)) ∗ bigSep (Finset.range u) (fun r => doneAt m c 3 (there r)))

theorem wp_awaitMax {α : Type} {Q : α → sProp 𝕄} (r : Fin 7) (k : PUnit → TProg F α) :
    awaitInv m K c r.val ⊢ iprop((awaitInv m K c (r.val + 1) -∗ WP c (k ⟨⟩) Q) -∗ WP c (awaitMax aM cc0_scratch7 r >>= k) Q) := by
  unfold awaitInv awaitMax
  simp only [Prog.lift, Prog.bind_op, Prog.bind_ret]
  rw [bigSep_Ico_succ_bot r.isLt, bigSep_range_succ]
  unfold dueAt doneAt
  iintro ⟨#HR, HO, ⟨⟨Hc, Ha⟩, Hrest⟩, Hdone⟩ Hk
  iapply (wp_landed m K c 3 (there r.val) (there_ne_zero r.isLt) _ (mayWait_end c _) (dstw := aRow aM (there r.val)) ((amount_row (there r.val) 0).trans amt_max.symm)) $$ [HO Hc Ha]
  · isplitr; · iexact HR
    isplitl [HO]; · iexact HO
    isplitl [Hc] <;> iassumption
  iintro ⟨HO, Hn⟩
  iapply Hk
  isplitr; · iexact HR
  isplitl [HO]; · iexact HO
  isplitl [Hrest]; · iexact Hrest
  isplitl [Hn] <;> iassumption

/-! ## Waiting for this device's own copies -/

def finishInv (u : ℕ) : sProp 𝕄 :=
  iprop(ctx m K ∗ debt c (owed c 7 7 7) ∗ bigSep (Finset.Ico u 7) (fun r => iprop(dueAt c 0 (there r) ∗ dueAt c 2 (there r)))
    ∗ bigSep (Finset.range u) (fun r => iprop(doneAt m c 0 (there r) ∗ doneAt m c 2 (there r))))

theorem credit_part (r : Fin 7) : (xPart xM c r).view.dmaCredit = amt 0 := rfl
theorem credit_row (j : Fin 8) : (aRow aM j).view.dmaCredit = amt 2 := rfl

theorem wp_finish {α : Type} {Q : α → sProp 𝕄} (r : Fin 7) (k : PUnit → TProg F α) :
    finishInv m K c r.val ⊢ iprop((finishInv m K c (r.val + 1) -∗ WP c (k ⟨⟩) Q)
      -∗ WP c (finish xM (Memref.isWhole_whole _) gM (Memref.isWhole_whole _) aM cc0_scratch4 cc0_scratch6 c r >>= k) Q) := by
  unfold finishInv finish
  simp only [Prog.lift, Prog.bind_op, Prog.bind_ret]
  rw [bigSep_Ico_succ_bot r.isLt, bigSep_range_succ]
  unfold dueAt doneAt
  iintro ⟨#HR, HO, ⟨⟨⟨Hc, Ha⟩, ⟨Hc', Ha'⟩⟩, Hrest⟩, Hdone⟩ Hk
  iapply (wp_landed m K c 0 (there r.val) (there_ne_zero r.isLt) _ (mayWait_end c _) (dstw := xPart xM c r) (credit_part c r)) $$ [HO Hc Ha]
  · isplitr; · iexact HR
    isplitl [HO]; · iexact HO
    isplitl [Hc] <;> iassumption
  iintro ⟨HO, Hn⟩
  iapply (wp_landed m K c 2 (there r.val) (there_ne_zero r.isLt) _ (mayWait_end c _) (dstw := aRow aM 0) (credit_row 0)) $$ [HO Hc' Ha']
  · isplitr; · iexact HR
    isplitl [HO]; · iexact HO
    isplitl [Hc'] <;> iassumption
  iintro ⟨HO, Hn'⟩
  iapply Hk
  isplitr; · iexact HR
  isplitl [HO]; · iexact HO
  isplitl [Hrest]; · iexact Hrest
  isplitl [Hn Hn']
  · isplitl [Hn] <;> iassumption
  iexact Hdone

/-! ## Reading them all -/

abbrev rowSet (j : Fin 8) : Finset S8x128.Idx := (aM.access (rectA j)).set

theorem row_disjoint : ∀ j ∈ (Finset.univ : Finset (Fin 8)), ∀ j' ∈ (Finset.univ : Finset (Fin 8)), j ≠ j' → Disjoint (rowSet j) (rowSet j') := by
  intro j _ j' _ h
  unfold rowSet
  rw [View.set_slice_whole, View.set_slice_whole, Finset.disjoint_left]
  intro x hx hx'
  rw [Rect.mem_set_unit] at hx hx'
  have h1 := hx 0; have h2 := hx' 0
  simp at h1 h2
  omega

theorem row_cover : (Finset.univ : Finset (Fin 8)).biUnion rowSet = Finset.univ := by
  refine Finset.eq_univ_of_forall fun x => Finset.mem_biUnion.mpr ⟨(x 0 : Fin 8), Finset.mem_univ _, ?_⟩
  unfold rowSet
  rw [View.set_slice_whole, Rect.mem_set_unit]
  intro a
  fin_cases a
  · exact ⟨le_rfl, Nat.lt_succ_self _⟩
  · exact ⟨Nat.zero_le _, by have := (x 1).isLt; simpa using this⟩

/-- All the magnitudes, as one buffer's contents. -/
def maxBuf : Buf (Elt F) ((c : Thread nD τ).loc cc0_scratch3) := amaxAll m c

/-- Row `j` of any contents that hold there what belongs there, is row `j` of `maxBuf`. -/
theorem row_eq (q : PosShare TreeShare) (j : Fin 8) (f : Buf (Elt F) ((aM.access (rectA j)).loc (c : Thread nD τ)))
    (h : (aM.access (rectA j)).read (Elt F) f = lmax m (from_ c j)) :
    ((aM.access (rectA j)).loc (c : Thread nD τ) ↦[(aM.access (rectA j)).set]{q} f : sProp 𝕄)
      = ((aM.access (rectA j)).loc (c : Thread nD τ) ↦[(aM.access (rectA j)).set]{q} maxBuf m c) := by
  refine pointsTo_congr fun i hi => ?_
  obtain ⟨x, -, rfl⟩ := Finset.mem_map.mp hi
  have hx := congrFun h x
  rw [View.read_apply] at hx
  refine hx.trans ?_
  have e0 : (((aM.access (rectA j)).emb x) 0 : Fin 8) = j := by
    apply Fin.ext
    show j.val + 1 * (x 0).val = j.val
    have : (x 0).val < 1 := (x 0).isLt
    omega
  have e1 : ix2 0 (((aM.access (rectA j)).emb x) 1) = x := by
    funext a
    fin_cases a
    · exact Fin.ext (by show 0 = (x 0).val; have : (x 0).val < 1 := (x 0).isLt; omega)
    · exact Fin.ext (by show 0 + 1 * (x 1).val = (x 1).val; omega)
  exact (congrArg₂ (fun a b => lmax m (from_ c a) b) e0 e1).symm

/-- Row `j` of all the magnitudes. -/
def rowPt (q : PosShare TreeShare) (j : Fin 8) : sProp 𝕄 :=
  (aM.access (rectA j)).loc (c : Thread nD τ) ↦[(aM.access (rectA j)).set]{q} maxBuf m c

theorem ownRow_eq (q : PosShare TreeShare) : ownRow m c q = rowPt m c q 0 := by
  unfold ownRow rowPt
  exact row_eq m c q 0 _ (by rw [from_zero]; exact View.read_write_univ _ _)

theorem rowFull_rowPt (j : Fin 8) : rowFull m c j ⊢ rowPt m c fullShare j := by
  unfold rowFull rowPt
  iintro ⟨%f, %hf, H⟩
  iapply (Entails.of_eq (row_eq m c fullShare j f hf)) $$ H

theorem rowPt_all (q : PosShare TreeShare) :
    (bigSep Finset.univ (rowPt m c q) : sProp 𝕄) = ((c : Thread nD τ).loc cc0_scratch3 ↦{q} maxBuf m c) := by
  unfold rowPt
  rw [← row_cover]
  exact (pointsTo_biUnion (ℓ := (c : Thread nD τ).loc cc0_scratch3) (Finset.univ : Finset (Fin 8)) rowSet row_disjoint).symm

/-- The share of the magnitudes that no copy reads at. -/
abbrev keepShare : PosShare TreeShare := Transfers.shareDrop fullShare 7

theorem rowPt_split (j : Fin 8) : rowPt m c fullShare j ⊢ iprop(rowPt m c keepShare j ∗ bigSep Finset.univ fun i : Fin 7 => rowPt m c (Transfers.shareTok fullShare 7 i) j) := by
  unfold rowPt; exact Transfers.pointsTo_toks_split fullShare 7
theorem rowPt_join (j : Fin 8) : iprop(rowPt m c keepShare j ∗ bigSep Finset.univ fun i : Fin 7 => rowPt m c (Transfers.shareTok fullShare 7 i) j) ⊢ rowPt m c fullShare j := by
  unfold rowPt; exact Transfers.pointsTo_toks_join fullShare 7

theorem read_maxBuf : (aM.access (Rect.unit (s := S8x128) ![0, 0] S8x128.size inb_S8x128_S8x128_0_0)).read (Elt F) (maxBuf m c) = amaxAll m c := by
  funext x
  rw [View.read_apply]
  refine congrArg (amaxAll m c) (a₁ := (aM.access (Rect.unit (s := S8x128) ![0, 0] S8x128.size inb_S8x128_S8x128_0_0)).emb x) (a₂ := x) ?_
  funext a
  fin_cases a
  · exact Fin.ext (by show 0 + 1 * (x 0).val = (x 0).val; omega)
  · exact Fin.ext (by show 0 + 1 * (x 1).val = (x 1).val; omega)

theorem wp_readMax {α : Type} {Q : α → sProp 𝕄} (k : Vec F S8x128 .f32 → TProg F α) :
    iprop(rowPt m c keepShare 0 ∗ bigSep (Finset.range 7) (fun r => rowPt m c fullShare (there r)))
      ⊢ iprop(((rowPt m c keepShare 0 ∗ bigSep (Finset.range 7) (fun r => rowPt m c fullShare (there r))) -∗ WP c (k (amaxAll m c)) Q)
        -∗ WP c (readMax aM >>= k) Q) := by
  unfold readMax
  simp only [Prog.lift, Prog.bind_op, Prog.bind_ret]
  have hs : (bigSep (Finset.range 7) (fun r => rowPt m c fullShare (there r)) : sProp 𝕄)
      ⊢ iprop(bigSep (Finset.range 7) (fun r => rowPt m c keepShare (there r))
        ∗ bigSep (Finset.range 7) (fun r => bigSep Finset.univ fun i : Fin 7 => rowPt m c (Transfers.shareTok fullShare 7 i) (there r))) := by
    exact (bigSep_mono fun r _ => rowPt_split m c (there r)).trans (Entails.of_eq (bigSep_sep _ _ _))
  have hj : iprop(bigSep (Finset.range 7) (fun r => rowPt m c keepShare (there r))
        ∗ bigSep (Finset.range 7) (fun r => bigSep Finset.univ fun i : Fin 7 => rowPt m c (Transfers.shareTok fullShare 7 i) (there r)))
      ⊢ (bigSep (Finset.range 7) (fun r => rowPt m c fullShare (there r)) : sProp 𝕄) := by
    exact (Entails.of_eq (bigSep_sep _ _ _).symm).trans (bigSep_mono fun r _ => rowPt_join m c (there r))
  iintro ⟨H0, Hr⟩ Hk
  ihave Hr := hs $$ Hr
  icases Hr with ⟨Hr, Ht⟩
  ihave H := (Entails.of_eq ((sep_there (rowPt m c keepShare)).symm.trans (rowPt_all m c keepShare))) $$ [H0 Hr]
  · isplitl [H0] <;> iassumption
  iapply (wp_load_rect 𝒱₀ (c : Thread nD τ) none Set.univ (m := aM) (r := Rect.unit (s := S8x128) ![0, 0] S8x128.size inb_S8x128_S8x128_0_0) (S := Finset.univ) (Finset.subset_univ _)) $$ H
  iintro H
  rw [read_maxBuf]
  ihave H := (Entails.of_eq ((rowPt_all m c keepShare).symm.trans (sep_there (rowPt m c keepShare)))) $$ H
  icases H with ⟨H0, Hr⟩
  iapply Hk
  isplitl [H0]; · iexact H0
  iapply hj
  isplitl [Hr] <;> iassumption

/-! ## Quantising -/

/-- The first `n` blocks of columns are quantised. -/
def quantAt (n : ℕ) (g : Buf (Elt F) ((c : Thread nD τ).loc cc0_stg1_0)) : Prop :=
  ∀ b : Fin 4, tileIs c g b (if b.val < n then qTile m c b.val else yv m c b.val 7)

def quantInv (n : ℕ) : sProp 𝕄 := iprop(∃ g, ⌜quantAt m c n g⌝ ∗ oPt c g)

theorem wp_quantNext {α : Type} {Q : α → sProp 𝕄} (n : Fin 4) (k : PUnit → TProg F α) :
    quantInv m c n.val ⊢ iprop((quantInv m c (n.val + 1) -∗ WP c (k ⟨⟩) Q) -∗ WP c (quantise oM (amaxAll m c) n >>= k) Q) := by
  unfold quantInv
  iintro ⟨%g, %hg, Ho⟩ Hk
  iapply (wp_quantise c n (amaxAll m c) g _ (hg n)) $$ Ho
  rw [if_neg (Nat.lt_irrefl n.val)]
  unfold oPut
  iintro ⟨%g', %hg', Ho⟩
  iapply Hk
  iexists g'
  isplitr
  · ipureintro
    intro b
    by_cases hb : b = n
    · subst hb
      rw [if_pos (Nat.lt_succ_self _)]
      exact hg'.1
    · have hv : b.val ≠ n.val := fun h => hb (Fin.ext h)
      have := hg'.2 b _ hb (hg b)
      by_cases hl : b.val < n.val
      · rw [if_pos hl] at this; rw [if_pos (by omega)]; exact this
      · rw [if_neg hl] at this; rw [if_neg (by omega)]; exact this
  iexact Ho

/-- With all four quantised the buffer is the result. -/
theorem quantAt_end {g : Buf (Elt F) ((c : Thread nD τ).loc cc0_stg1_0)} (h : quantAt m c 4 g) : g = outAt m c := by
  funext i
  have h1 : (i 1).val < 8192 := (i 1).isLt
  have hb := h ⟨(i 1).val / 2048, by omega⟩
  rw [if_pos (by show (i 1).val / 2048 < 4; omega)] at hb
  have hx := congrFun hb (ix2 (i 0) ⟨(i 1).val % 2048, Nat.mod_lt _ (by decide)⟩)
  rw [View.read_apply] at hx
  refine Eq.trans (congrArg g ?_) hx
  funext a
  fin_cases a
  · exact Fin.ext (by show (i 0).val = 0 + 1 * (i 0).val; omega)
  · exact Fin.ext (by show (i 1).val = 2048 * ((i 1).val / 2048) + 1 * ((i 1).val % 2048); omega)

end Cert.KernelIdeal.Run
end
-- ==== Proof.Run.Parts.lean ====
/- Cutting the device's buffers into the parts that change hands, and putting them together again. -/
module

public import proofs.«01_k».proof.Proof.Run.Maxes

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## In general -/

section
variable {ℓ : Loc nD τ sig} {T : Type} [DecidableEq T] (S : Finset T) (P : T → Finset (Idx ℓ))

/-- Holding a buffer at some contents, on a set of its elements. -/
abbrev someOn (ℓ : Loc nD τ sig) (I : Finset (Idx ℓ)) : sProp 𝕄 := iprop(∃ f, ℓ ↦[I]{fullShare} f)

theorem some_of {I : Finset (Idx ℓ)} (f : Buf (Elt F) ℓ) : (ℓ ↦[I]{fullShare} f : sProp 𝕄) ⊢ someOn ℓ I := by
  iintro H
  iexists f; iexact H

theorem cut_some (h : ∀ t ∈ S, ∀ t' ∈ S, t ≠ t' → Disjoint (P t) (P t')) (hu : S.biUnion P = Finset.univ) :
    (someOn ℓ Finset.univ : sProp 𝕄) ⊢ bigSep S fun t => someOn ℓ (P t) := by
  iintro ⟨%f, H⟩
  have e : (ℓ ↦[Finset.univ]{fullShare} f : sProp 𝕄) ⊢ bigSep S fun t => someOn ℓ (P t) := by
    rw [← hu, pointsTo_biUnion S P h]
    exact bigSep_mono fun t _ => some_of f
  iapply e $$ H

theorem paste_some (f₀ : Buf (Elt F) ℓ) (h : ∀ t ∈ S, ∀ t' ∈ S, t ≠ t' → Disjoint (P t) (P t')) :
    (bigSep S (fun t => someOn ℓ (P t)) : sProp 𝕄) ⊢ someOn ℓ (S.biUnion P) := by
  induction S using Finset.induction_on with
  | empty =>
    rw [Finset.biUnion_empty, bigSep_empty]
    iintro -
    iexists f₀
    rw [pointsTo_empty]
    iempintro
  | insert t S ht ih =>
    have e : (bigSep (insert t S) (fun t => someOn ℓ (P t)) : sProp 𝕄) = iprop(someOn ℓ (P t) ∗ bigSep S fun t => someOn ℓ (P t)) := bigSep_insert ht
    rw [e, Finset.biUnion_insert]
    have ih' := ih fun a ha b hb hab => h a (Finset.mem_insert_of_mem ha) b (Finset.mem_insert_of_mem hb) hab
    have hd : Disjoint (P t) (S.biUnion P) := by
      rw [Finset.disjoint_biUnion_right]
      exact fun s hs => h t (Finset.mem_insert_self _ _) s (Finset.mem_insert_of_mem hs) fun e => ht (e ▸ hs)
    iintro ⟨⟨%f, Hf⟩, HS⟩
    ihave HS := ih' $$ HS
    icases HS with ⟨%g, Hg⟩
    iexists _
    iapply (pointsTo_join (f := f) (g := g) hd)
    isplitl [Hf] <;> iassumption

end

theorem zip2 {S : Finset ℕ} (A B : ℕ → sProp 𝕄) : iprop(bigSep S A ∗ bigSep S B) ⊢ bigSep S fun r => iprop(A r ∗ B r) :=
  Entails.of_eq (bigSep_sep S A B).symm
theorem unzip2 {S : Finset ℕ} (A B : ℕ → sProp 𝕄) : (bigSep S fun r => iprop(A r ∗ B r)) ⊢ iprop(bigSep S A ∗ bigSep S B) :=
  Entails.of_eq (bigSep_sep S A B)

theorem bigSep_mono' {S : Finset ℕ} {A B : ℕ → sProp 𝕄} (h : ∀ r, A r ⊢ B r) : bigSep S A ⊢ bigSep S B := bigSep_mono fun r _ => h r

theorem sep_later (Φ : Fin 8 → sProp 𝕄) : (bigSep (Finset.Ico 1 8) fun q => Φ (gslot q)) = bigSep (Finset.range 7) fun r => Φ (there r) := by
  have h1 : (bigSep (Finset.Ico 1 8) fun q => Φ (gslot q)) = bigSep ((Finset.Ico 1 8).image gslot) Φ :=
    (bigSep_image' (fun a ha b hb h => gslot_inj (by simp at ha ⊢; omega) (by simp at hb ⊢; omega) h) Φ).symm
  have h2 : (bigSep (Finset.range 7) fun r => Φ (there r)) = bigSep ((Finset.range 7).image there) Φ := (bigSep_image' there_inj Φ).symm
  rw [h1, h2, show (Finset.Ico 1 8).image gslot = (Finset.range 7).image there by decide +kernel]

/-! ## The slots of the gathered rows -/

abbrev slotSet (j : Fin 8) : Finset S8x512x512.Idx := (gM.access (rectG j)).set

theorem slot_disjoint : ∀ j ∈ (Finset.univ : Finset (Fin 8)), ∀ j' ∈ (Finset.univ : Finset (Fin 8)), j ≠ j' → Disjoint (slotSet j) (slotSet j') := by
  intro j _ j' _ h
  unfold slotSet
  rw [View.set_slice_whole, View.set_slice_whole, Finset.disjoint_left]
  intro x hx hx'
  rw [Rect.mem_set_unit] at hx hx'
  have h1 := hx 0; have h2 := hx' 0
  simp at h1 h2
  omega

theorem slot_cover : (Finset.univ : Finset (Fin 8)).biUnion slotSet = Finset.univ := by
  refine Finset.eq_univ_of_forall fun x => Finset.mem_biUnion.mpr ⟨(x 0 : Fin 8), Finset.mem_univ _, ?_⟩
  unfold slotSet
  rw [View.set_slice_whole, Rect.mem_set_unit]
  intro a
  fin_cases a
  · exact ⟨le_rfl, Nat.lt_succ_self _⟩
  · exact ⟨Nat.zero_le _, by have := (x 1).isLt; simpa using this⟩
  · exact ⟨Nat.zero_le _, by have := (x 2).isLt; simp at this ⊢; exact this⟩

theorem slots_cut : (someOn ((c : Thread nD τ).loc cc0_scratch0) Finset.univ : sProp 𝕄) ⊢ bigSep Finset.univ fun j => slotAny c j :=
  cut_some (ℓ := (c : Thread nD τ).loc cc0_scratch0) Finset.univ slotSet slot_disjoint slot_cover
theorem slots_paste (f₀ : Buf (Elt F) ((c : Thread nD τ).loc cc0_scratch0)) : (bigSep Finset.univ fun j => slotAny (F := F) c j) ⊢ (someOn ((c : Thread nD τ).loc cc0_scratch0) Finset.univ : sProp 𝕄) := by
  have h := paste_some (F := F) (ℓ := (c : Thread nD τ).loc cc0_scratch0) Finset.univ slotSet f₀ slot_disjoint
  rw [slot_cover] at h
  exact h
theorem slotFull_any (j : Fin 8) : slotFull m c j ⊢ slotAny c j := by
  unfold slotFull slotAny
  iintro ⟨%f, -, H⟩
  iexists f; iexact H

/-! ## The rows of the magnitudes -/

theorem rows_cut : (someOn ((c : Thread nD τ).loc cc0_scratch3) Finset.univ : sProp 𝕄) ⊢ bigSep Finset.univ fun j => rowAny c j :=
  cut_some (ℓ := (c : Thread nD τ).loc cc0_scratch3) Finset.univ rowSet row_disjoint row_cover

/-! ## The landing buffers of the weights -/

abbrev bufSet (b : Fin 6) : Finset S6x512x2048.Idx := (tM.access (rectT b)).set

theorem buf_disjoint : ∀ j ∈ (Finset.univ : Finset (Fin 6)), ∀ j' ∈ (Finset.univ : Finset (Fin 6)), j ≠ j' → Disjoint (bufSet j) (bufSet j') := by
  intro j _ j' _ h
  unfold bufSet
  rw [View.set_slice_whole, View.set_slice_whole, Finset.disjoint_left]
  intro x hx hx'
  rw [Rect.mem_set_unit] at hx hx'
  have h1 := hx 0; have h2 := hx' 0
  simp at h1 h2
  omega

theorem buf_cover : (Finset.univ : Finset (Fin 6)).biUnion bufSet = Finset.univ := by
  refine Finset.eq_univ_of_forall fun x => Finset.mem_biUnion.mpr ⟨(x 0 : Fin 6), Finset.mem_univ _, ?_⟩
  unfold bufSet
  rw [View.set_slice_whole, Rect.mem_set_unit]
  intro a
  fin_cases a
  · exact ⟨le_rfl, Nat.lt_succ_self _⟩
  · exact ⟨Nat.zero_le _, by have := (x 1).isLt; simpa using this⟩
  · exact ⟨Nat.zero_le _, by have := (x 2).isLt; simp at this ⊢; exact this⟩

theorem all_bufOf : (Finset.univ : Finset (Fin 6)) = (Finset.range 6).image bufOf := by decide +kernel
theorem bufOf_inj : Set.InjOn bufOf (Finset.range 6 : Finset ℕ) := by
  intro a ha b hb h
  have := congrArg Fin.val h; unfold bufOf at this
  simp only [Finset.coe_range, Set.mem_Iio] at ha hb this; omega
theorem sep_bufOf (Φ : Fin 6 → sProp 𝕄) : bigSep Finset.univ Φ = bigSep (Finset.range 6) fun s => Φ (bufOf s) := by
  rw [all_bufOf, bigSep_image' bufOf_inj]

theorem bufs_cut : (someOn ((c : Thread nD τ).loc cc0_scratch1) Finset.univ : sProp 𝕄) ⊢ bigSep Finset.univ fun b => bufAny c b :=
  cut_some (ℓ := (c : Thread nD τ).loc cc0_scratch1) Finset.univ bufSet buf_disjoint buf_cover
theorem bufs_paste (f₀ : Buf (Elt F) ((c : Thread nD τ).loc cc0_scratch1)) : (bigSep Finset.univ fun b => bufAny (F := F) c b) ⊢ (someOn ((c : Thread nD τ).loc cc0_scratch1) Finset.univ : sProp 𝕄) := by
  have h := paste_some (F := F) (ℓ := (c : Thread nD τ).loc cc0_scratch1) Finset.univ bufSet f₀ buf_disjoint
  rw [buf_cover] at h
  exact h

/-! ## The staged rows -/

abbrev partSet (t : Dev nD) : Finset S4096x512.Idx := (xM.access (rectP t)).set

theorem part_disjoint : ∀ t ∈ (Finset.univ : Finset (Dev nD)), ∀ t' ∈ (Finset.univ : Finset (Dev nD)), t ≠ t' → Disjoint (partSet t) (partSet t') := by
  intro j _ j' _ h
  unfold partSet
  rw [View.set_slice_whole, View.set_slice_whole, Finset.disjoint_left]
  intro x hx hx'
  rw [Rect.mem_set_unit] at hx hx'
  have h1 := hx 0; have h2 := hx' 0
  have hne : j.val ≠ j'.val := fun e => h (Fin.ext e)
  simp at h1 h2
  omega

theorem part_cover : (Finset.univ : Finset (Dev nD)).biUnion partSet = Finset.univ := by
  refine Finset.eq_univ_of_forall fun x => Finset.mem_biUnion.mpr ?_
  have h0 : (x 0).val < 4096 := (x 0).isLt
  refine ⟨⟨(x 0).val / 512, by show _ < 8; omega⟩, Finset.mem_univ _, ?_⟩
  unfold partSet
  rw [View.set_slice_whole, Rect.mem_set_unit]
  intro a
  fin_cases a
  · exact ⟨by show 512 * ((x 0).val / 512) ≤ (x 0).val; omega, by show (x 0).val < 512 * ((x 0).val / 512) + 512; omega⟩
  · exact ⟨Nat.zero_le _, by have := (x 1).isLt; simpa using this⟩

theorem parts_eq : ((c : Thread nD τ).loc cc0_stg0_0 ↦{fullShare} xstg m c : sProp 𝕄)
    = iprop(xPt m c c ∗ bigSep (Finset.range 7) fun r => xPt m c (peer c r)) := by
  refine Eq.trans ?_ (sep_peer c (xPt m c))
  unfold xPt
  rw [← part_cover]
  exact pointsTo_biUnion (ℓ := (c : Thread nD τ).loc cc0_stg0_0) (Finset.univ : Finset (Dev nD)) partSet part_disjoint

/-! ## The weights' copies, all idle -/

theorem idle_all : bigSep Finset.univ (idle m c) ⊢ (bufs m c 0 0 : sProp 𝕄) := by
  unfold bufs
  rw [Finset.Ico_self, bigSep_empty, sep_bufOf, Finset.range_eq_Ico]
  iintro H
  isplitr; · iempintro
  iexact H

theorem idle_end : (bufs m c 32 32 : sProp 𝕄) ⊢ bigSep Finset.univ (idle m c) := by
  unfold bufs
  have e : (bigSep (Finset.Ico 32 (32 + 6)) fun s => idle m c (bufOf s)) = bigSep Finset.univ (idle m c) := by
    rw [show (Finset.univ : Finset (Fin 6)) = (Finset.Ico 32 (32 + 6)).image bufOf by decide +kernel]
    refine (bigSep_image' (fun a ha b hb h => ?_) _).symm
    have := congrArg Fin.val h; unfold bufOf at this
    simp only [Finset.coe_Ico, Set.mem_Ico] at ha hb this; omega
  rw [e]
  iintro ⟨-, H⟩
  iexact H

theorem idle_make : iprop((bigSep Finset.univ fun b => bufAny (F := F) c b) ∗ ((c : Thread nD τ).loc main_arg1 ↦{fullShare.left} wts m c)
      ∗ bigSep Finset.univ fun b => semVal ((c : Thread nD τ), .dma (wsem b)) 0)
    ⊢ bigSep Finset.univ (idle m c) := by
  have h : (bigSep Finset.univ (idle m c) : sProp 𝕄) = iprop((bigSep Finset.univ fun b => bufAny (F := F) c b)
      ∗ (bigSep Finset.univ fun b => ((c : Thread nD τ).loc main_arg1 ↦[Finset.univ]{wShare b} wts m c)) ∗ bigSep Finset.univ fun b => semVal ((c : Thread nD τ), .dma (wsem b)) 0) := by
    unfold idle
    rw [bigSep_sep', bigSep_sep']
  rw [h]
  iintro ⟨Hb, Hw, Hv⟩
  isplitl [Hb]; · iexact Hb
  isplitl [Hw]
  · ihave Hw := (Transfers.pointsTo_toks_split fullShare.left 6) $$ Hw
    icases Hw with ⟨-, Hw⟩
    iexact Hw
  iexact Hv

theorem idle_give : bigSep Finset.univ (idle m c)
    ⊢ iprop((bigSep Finset.univ fun b => bufAny (F := F) c b) ∗ bigSep Finset.univ fun b => semVal ((c : Thread nD τ), .dma (wsem b)) 0) := by
  unfold idle
  rw [bigSep_sep', bigSep_sep']
  iintro ⟨Hb, -, Hv⟩
  isplitl [Hb] <;> iassumption

end Cert.KernelIdeal.Run
end
-- ==== Proof.Run.Body.lean ====
/- The whole body of a device: from what it starts with to what it ends with. -/
module

public import proofs.«01_k».proof.Proof.Run.Parts

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## What a device starts with -/

/-- The tokens of the duties a device pays to its peer `r`, or to itself for that peer. -/
def tokens : sProp 𝕄 :=
  iprop(bigSep (Finset.range 7) (fun r => dutyTok ER (barCell (peer c r)) 0 (6 - r))
    ∗ bigSep (Finset.range 7) (fun r => dutyTok ER (cell c 0 (there r)) 0 0)
    ∗ bigSep (Finset.range 7) (fun r => dutyTok ER (cell (peer c r) 1 (back r)) 0 0)
    ∗ bigSep (Finset.range 7) (fun r => dutyTok ER (cell c 2 (there r)) 0 0)
    ∗ bigSep (Finset.range 7) (fun r => dutyTok ER (cell (peer c r) 3 (back r)) 0 0))

/-- Its places on its own semaphores: `b` says whether their only round is done. -/
def places (b : ℕ) : sProp 𝕄 :=
  iprop(at_ (barCell c) b ∗ bigSep (Finset.range 7) (fun r => at_ (cell c 0 (there r)) b) ∗ bigSep (Finset.range 7) (fun r => at_ (cell c 1 (there r)) b)
    ∗ bigSep (Finset.range 7) (fun r => at_ (cell c 2 (there r)) b) ∗ bigSep (Finset.range 7) (fun r => at_ (cell c 3 (there r)) b))

/-- The credits it starts with: seven at the barrier, and one landing on each receiving semaphore. -/
def credits : sProp 𝕄 :=
  iprop(cred (tallyAt (barCell c) () 7) ∗ bigSep (Finset.range 7) (fun r => cred (tallyAt (cell c 1 (there r)) () (amt 1)))
    ∗ bigSep (Finset.range 7) (fun r => cred (tallyAt (cell c 3 (there r)) () (amt 3))))

/-- Its scratch buffers, at any contents, and the semaphores of its own copies at rest. -/
def scratch : sProp 𝕄 :=
  iprop(someOn ((c : Thread nD τ).loc cc0_scratch0) Finset.univ ∗ someOn ((c : Thread nD τ).loc cc0_scratch1) Finset.univ
    ∗ someOn ((c : Thread nD τ).loc cc0_scratch2) Finset.univ ∗ someOn ((c : Thread nD τ).loc cc0_scratch3) Finset.univ)
def wSems : sProp 𝕄 := bigSep Finset.univ fun b : Fin 6 => semVal ((c : Thread nD τ), .dma (wsem b)) 0

def startRes : sProp 𝕄 :=
  iprop(debt c (owed c 0 0 0) ∗ tokens (F := F) c ∗ places (F := F) c 0 ∗ credits (F := F) c ∗ scratch (F := F) c ∗ wSems (F := F) c
    ∗ ((c : Thread nD τ).loc main_arg1 ↦{fullShare.left} wts m c)
    ∗ ((c : Thread nD τ).loc cc0_stg0_0 ↦{fullShare} xstg m c) ∗ someOn ((c : Thread nD τ).loc cc0_stg1_0) Finset.univ)

def endRes : sProp 𝕄 :=
  iprop(debt c 0 ∗ places (F := F) c 1 ∗ scratch (F := F) c ∗ wSems (F := F) c
    ∗ ((c : Thread nD τ).loc cc0_stg0_0 ↦{fullShare} xstg m c) ∗ ((c : Thread nD τ).loc cc0_stg1_0 ↦{fullShare} outAt m c))

/-! ## The parts of the body -/

/-- After the entry, the rows for the peers and this device's own, and the first weights: ready for the steps. -/
theorem wp_opening {α : Type} {Q : α → sProp 𝕄} (k : PUnit → TProg F α) :
    iprop(ctx m K ∗ debt c (owed c 0 0 0)
        ∗ bigSep (Finset.range 7) (fun r => dutyTok ER (barCell (peer c r)) 0 (6 - r))
        ∗ bigSep (Finset.range 7) (fun r => dutyTok ER (cell c 0 (there r)) 0 0)
        ∗ bigSep (Finset.range 7) (fun r => dutyTok ER (cell (peer c r) 1 (back r)) 0 0)
        ∗ at_ (barCell c) 0 ∗ cred (tallyAt (barCell c) () 7)
        ∗ someOn ((c : Thread nD τ).loc cc0_scratch0) Finset.univ ∗ someOn ((c : Thread nD τ).loc cc0_scratch3) Finset.univ
        ∗ ((c : Thread nD τ).loc cc0_stg0_0 ↦{fullShare} xstg m c))
      ⊢ iprop(((debt c (owed c 7 7 0) ∗ at_ (barCell c) 1 ∗ bigSep (Finset.range 7) (sentRes c 0) ∗ slotFull m c 0 ∗ rowAny c 0 ∗ xPt m c c
            ∗ bigSep (Finset.range 7) (fun r => rowAny (F := F) (peer c r) (back r))) -∗ WP c (k ⟨⟩) Q)
        -∗ WP c ((seqF 7 (enter c) >>= fun _ => semWaitWord barrierArr.sem 7#32 >>= fun _ =>
            seqF 7 (sendRows xM (Memref.isWhole_whole _) gM (Memref.isWhole_whole _) cc0_scratch4 cc0_scratch5 c) >>= fun _ =>
            keepRows xM gM (Memref.isWhole_whole _) c) >>= k) Q) := by
  simp only [Prog.bind_assoc]
  iintro ⟨#HR, HO, HtB, Ht0, Ht1, HaB, HcB, Hg, Ha, Hx⟩ Hk
  ihave Hg := ((slots_cut c).trans (Entails.of_eq (sep_there _))) $$ Hg
  icases Hg with ⟨Hg0, Hg⟩
  ihave Ha := ((rows_cut c).trans (Entails.of_eq (sep_there _))) $$ Ha
  icases Ha with ⟨Ha0, Ha⟩
  ihave Hx := (Entails.of_eq (parts_eq m c)) $$ Hx
  icases Hx with ⟨Hx0, Hx⟩
  iapply (wp_seqF c (enterInv m K c) _ Q 7 (enter c) (fun r k => wp_enter m K c r k)) $$ [HO HtB Hg Ha]
  · unfold enterInv enterRes
    isplitr; · iexact HR
    isplitl [HO]; · iexact HO
    rw [← Finset.range_eq_Ico]
    iapply zip2
    isplitl [HtB]; · iexact HtB
    iapply zip2
    isplitl [Hg] <;> iassumption
  unfold enterInv
  iintro ⟨-, HO, -⟩
  iapply (wp_allIn m K c) $$ [HO HcB HaB]
  · isplitr; · iexact HR
    isplitl [HO]; · iexact HO
    isplitl [HcB] <;> iassumption
  iintro ⟨HO, HaB, Hp⟩
  unfold enterPay
  ihave Hp := (unzip2 (fun r => slotAny (F := F) (peer c r) (back r)) (fun r => rowAny (F := F) (peer c r) (back r))) $$ Hp
  icases Hp with ⟨Hs, Hrow⟩
  iapply (wp_seqF c (sendInv m K c) _ Q 7 _ (fun r k => wp_sendRows m K c r k)) $$ [HO Hx Hs Ht0 Ht1]
  · unfold sendInv sendRes
    isplitr; · iexact HR
    isplitl [HO]; · iexact HO
    rw [← Finset.range_eq_Ico, Finset.range_zero, bigSep_empty]
    isplitl [Hx Hs Ht0 Ht1]
    · iapply zip2
      isplitl [Hx]; · iexact Hx
      iapply zip2
      isplitl [Hs]; · iexact Hs
      iapply zip2
      isplitl [Ht0] <;> iassumption
    iempintro
  unfold sendInv
  iintro ⟨-, HO, -, Hsent⟩
  iapply (wp_keepRows m c) $$ [Hx0 Hg0]
  · isplitl [Hx0] <;> iassumption
  iintro ⟨Hx0, Hg0⟩
  iapply Hk
  isplitl [HO]; · iexact HO
  isplitl [HaB]; · iexact HaB
  isplitl [Hsent]; · iexact Hsent
  isplitl [Hg0]; · iexact Hg0
  isplitl [Ha0]; · iexact Ha0
  isplitl [Hx0] <;> iassumption

/-- The steps of the product, with their first fetches. -/
theorem wp_products {α : Type} {Q : α → sProp 𝕄} (k : PUnit → TProg F α) :
    iprop(ctx m K ∗ debt c (owed c 7 7 0) ∗ bigSep Finset.univ (idle m c) ∗ someOn ((c : Thread nD τ).loc cc0_scratch2) Finset.univ
        ∗ slotFull m c 0 ∗ bigSep (Finset.range 7) (fun r => iprop(cred (tallyAt (cell c 1 (there r)) () (amt 1)) ∗ at_ (cell c 1 (there r)) 0))
        ∗ someOn ((c : Thread nD τ).loc cc0_stg1_0) Finset.univ)
      ⊢ iprop(((debt c (owed c 7 7 0) ∗ bigSep Finset.univ (idle m c) ∗ someOn ((c : Thread nD τ).loc cc0_scratch2) Finset.univ
            ∗ (bigSep Finset.univ fun j => slotFull m c j) ∗ bigSep (Finset.range 7) (fun r => at_ (cell c 1 (there r)) 1)
            ∗ ∃ g, ⌜∀ n : Fin 4, tileIs c g n (yv m c n.val 7)⌝ ∗ oPt c g) -∗ WP c (k ⟨⟩) Q)
        -∗ WP c (((seqF 5 fun i => fetch wM tM cc0_scratch8 c i.val) >>= fun _ =>
            narrow wM tM bM (Memref.isWhole_whole _) cc0_scratch8 c 0 >>= fun _ =>
            seqF 32 (step xM (Memref.isWhole_whole _) wM oM gM (Memref.isWhole_whole _) tM bM (Memref.isWhole_whole _) cc0_scratch5 cc0_scratch8 c)) >>= k) Q) := by
  simp only [Prog.bind_assoc]
  iintro ⟨#HR, HO, Hi, ⟨%f, Hf⟩, Hs, Hd, ⟨%g, Ho⟩⟩ Hk
  ihave Hb := (idle_all m c) $$ Hi
  iapply (wp_seqF c (bufs m c 0) _ Q 5 _ (fun r k => wp_fetchNext m c (Nat.zero_le _) (by have := r.isLt; omega) k)) $$ Hb
  iintro Hb
  iapply (wp_narrowNext m K c (n := 0) (p := 5) (by decide) (by decide) f) $$ [HO Hb Hf]
  · isplitr; · iexact HR
    isplitl [HO]; · iexact HO
    isplitl [Hb] <;> iassumption
  unfold narrowed
  iintro ⟨HO, Hb, ⟨%f', %hf', Hf⟩⟩
  iapply (wp_seqF c (stepInv m K c) _ Q 32 _ (fun r k => wp_step m K c r k)) $$ [HO Hb Hf Hs Hd Ho]
  · unfold stepInv ready outs gathered due
    isplitr; · iexact HR
    isplitl [HO]; · iexact HO
    isplitl [Hb]; · iexact Hb
    isplitl [Hf]
    · iexists f'
      isplitr; · ipureintro; exact fun _ => hf'.1
      iexact Hf
    isplitl [Hs Hd]
    · rw [show max 1 ((0 + 3) / 4) = 1 from rfl, sep_later fun j => iprop(cred (tallyAt (cell c 1 j) () (amt 1)) ∗ at_ (cell c 1 j) 0), Finset.Ico_self, bigSep_empty,
        Finset.range_one, bigSep_singleton]
      isplitl [Hs]; · iexact Hs
      isplitl [Hd]; · iexact Hd
      iempintro
    iexists g
    isplitr
    · ipureintro
      intro n k h _
      omega
    iexact Ho
  unfold stepInv ready outs gathered
  rw [show max 1 ((32 + 3) / 4) = 8 from rfl, show min (32 + 1) 32 = 32 from rfl, show min (32 + 5) 32 = 32 from rfl, sep_later fun j => at_ (cell c 1 j) 1,
    ← sep_gslot (slotFull m c)]
  iintro ⟨-, HO, Hb, ⟨%f'', -, Hf⟩, ⟨Hs, -, Hd⟩, ⟨%g', %hg, Ho⟩⟩
  ihave Hi := (idle_end m c) $$ Hb
  iapply Hk
  isplitl [HO]; · iexact HO
  isplitl [Hi]; · iexact Hi
  isplitl [Hf]; · iexists f''; iexact Hf
  isplitl [Hs]; · iexact Hs
  isplitl [Hd]; · iexact Hd
  iexists g'
  isplitr
  · ipureintro
    intro n
    exact hg n 7 (by have := n.isLt; omega) (by omega)
  iexact Ho

theorem landed_rows (r : ℕ) : landPay m c 0 (there r) ⊢ xPt m c (peer c r) := by
  unfold landPay
  rw [from_there]

theorem landed_tokens : bigSep (Finset.range 7) (fun r => landPay m c 2 (there r)) ⊢ bigSep (Finset.range 7) (fun r => ownRow m c (rowShare r)) := by
  refine Entails.of_eq (bigSep_congr fun r hr => ?_)
  have h : (there r).val - 1 = r := by unfold there; have := Finset.mem_range.mp hr; simp only; omega
  unfold landPay rowShare
  show ownRow m c (Transfers.shareTokN fullShare ((there r).val - 1)) = _
  rw [h]

/-- The exchange of the magnitudes, the quantiser and the last waits. -/
theorem wp_closing {α : Type} {Q : α → sProp 𝕄} (g : Buf (Elt F) ((c : Thread nD τ).loc cc0_stg1_0)) (hg : ∀ n : Fin 4, tileIs c g n (yv m c n.val 7))
    (k : PUnit → TProg F α) :
    iprop(ctx m K ∗ debt c (owed c 7 7 0) ∗ oPt c g ∗ rowAny c 0 ∗ bigSep (Finset.range 7) (fun r => rowAny (F := F) (peer c r) (back r))
        ∗ bigSep (Finset.range 7) (fun r => dutyTok ER (cell c 2 (there r)) 0 0)
        ∗ bigSep (Finset.range 7) (fun r => dutyTok ER (cell (peer c r) 3 (back r)) 0 0)
        ∗ bigSep (Finset.range 7) (fun r => dueAt c 3 (there r))
        ∗ bigSep (Finset.range 7) (sentRes c 0)
        ∗ bigSep (Finset.range 7) (fun r => at_ (cell c 0 (there r)) 0) ∗ bigSep (Finset.range 7) (fun r => at_ (cell c 2 (there r)) 0))
      ⊢ iprop(((debt c 0 ∗ oPt c (outAt m c) ∗ someOn ((c : Thread nD τ).loc cc0_scratch3) Finset.univ
            ∗ bigSep (Finset.range 7) (fun r => xPt m c (peer c r))
            ∗ bigSep (Finset.range 7) (fun r => at_ (cell c 0 (there r)) 1) ∗ bigSep (Finset.range 7) (fun r => at_ (cell c 2 (there r)) 1)
            ∗ bigSep (Finset.range 7) (fun r => at_ (cell c 3 (there r)) 1)) -∗ WP c (k ⟨⟩) Q)
        -∗ WP c ((localMax oM aM >>= fun _ => seqF 7 (sendMax aM cc0_scratch6 cc0_scratch7 c) >>= fun _ =>
            seqF 7 (awaitMax aM cc0_scratch7) >>= fun _ => readMax aM >>= fun a => seqF 4 (quantise oM a) >>= fun _ =>
            seqF 7 (finish xM (Memref.isWhole_whole _) gM (Memref.isWhole_whole _) aM cc0_scratch4 cc0_scratch6 c)) >>= k) Q) := by
  simp only [Prog.bind_assoc]
  iintro ⟨#HR, HO, Ho, Ha0, Ha, Ht2, Ht3, Hd3, Hs0, Hp0, Hp2⟩ Hk
  iapply (wp_localMax m c g hg) $$ [Ho Ha0]
  · isplitl [Ho] <;> iassumption
  iintro ⟨Ho, Ha0⟩
  ihave Ha0 := (show ownRow m c fullShare ⊢ iprop(ownRow m c keepShare ∗ bigSep (Finset.range 7) fun r => ownRow m c (rowShare r)) from
    by unfold ownRow; exact (Transfers.pointsTo_toks_range fullShare 7).1) $$ Ha0
  icases Ha0 with ⟨Hkeep, Htoks⟩
  iapply (wp_seqF c (sendMaxInv m K c) _ Q 7 _ (fun r k => wp_sendMax m K c r k)) $$ [HO Htoks Ha Ht2 Ht3]
  · unfold sendMaxInv sendMaxRes
    isplitr; · iexact HR
    isplitl [HO]; · iexact HO
    rw [← Finset.range_eq_Ico, Finset.range_zero, bigSep_empty]
    isplitl [Htoks Ha Ht2 Ht3]
    · iapply zip2
      isplitl [Htoks]; · iexact Htoks
      iapply zip2
      isplitl [Ha]; · iexact Ha
      iapply zip2
      isplitl [Ht2] <;> iassumption
    iempintro
  unfold sendMaxInv
  iintro ⟨-, HO, -, Hs2⟩
  iapply (wp_seqF c (awaitInv m K c) _ Q 7 _ (fun r k => wp_awaitMax m K c r k)) $$ [HO Hd3]
  · unfold awaitInv
    isplitr; · iexact HR
    isplitl [HO]; · iexact HO
    rw [← Finset.range_eq_Ico, Finset.range_zero, bigSep_empty]
    isplitl [Hd3]; · iexact Hd3
    iempintro
  unfold awaitInv doneAt
  iintro ⟨-, HO, -, Hdone⟩
  ihave Hdone := (unzip2 (fun r => at_ (cell c 3 (there r)) 1) (fun r => landPay m c 3 (there r))) $$ Hdone
  icases Hdone with ⟨Hp3, Hrows⟩
  ihave Hrows := (bigSep_mono' fun r => (show landPay m c 3 (there r) ⊢ rowPt m c fullShare (there r) from rowFull_rowPt m c (there r))) $$ Hrows
  ihave Hkeep := (Entails.of_eq (ownRow_eq m c keepShare)) $$ Hkeep
  iapply (wp_readMax m c) $$ [Hkeep Hrows]
  · isplitl [Hkeep] <;> iassumption
  iintro ⟨Hkeep, Hrows⟩
  iapply (wp_seqF c (quantInv m c) _ Q 4 _ (fun r k => wp_quantNext m c r k)) $$ [Ho]
  · unfold quantInv
    iexists g
    isplitr
    · ipureintro
      intro b
      rw [if_neg (Nat.not_lt_zero _)]
      exact hg b
    iexact Ho
  unfold quantInv
  iintro ⟨%g', %hg', Ho⟩
  have hg' := quantAt_end m c hg'
  subst hg'
  iapply (wp_seqF c (finishInv m K c) _ Q 7 _ (fun r k => wp_finish m K c r k)) $$ [HO Hs0 Hs2 Hp0 Hp2]
  · unfold finishInv dueAt
    isplitr; · iexact HR
    isplitl [HO]; · iexact HO
    rw [← Finset.range_eq_Ico, Finset.range_zero, bigSep_empty]
    isplitl [Hs0 Hs2 Hp0 Hp2]
    · iapply zip2
      isplitl [Hs0 Hp0]
      · iapply zip2
        isplitl [Hs0]; · iexact Hs0
        iexact Hp0
      iapply zip2
      isplitl [Hs2]; · iexact Hs2
      iexact Hp2
    iempintro
  unfold finishInv doneAt
  iintro ⟨-, HO, -, Hdone⟩
  ihave Hdone := (unzip2 (fun r => iprop(at_ (cell c 0 (there r)) 1 ∗ landPay m c 0 (there r))) (fun r => iprop(at_ (cell c 2 (there r)) 1 ∗ landPay m c 2 (there r)))) $$ Hdone
  icases Hdone with ⟨Hd0, Hd2⟩
  ihave Hd0 := (unzip2 (fun r => at_ (cell c 0 (there r)) 1) (fun r => landPay m c 0 (there r))) $$ Hd0
  icases Hd0 with ⟨Hp0, Hx⟩
  ihave Hd2 := (unzip2 (fun r => at_ (cell c 2 (there r)) 1) (fun r => landPay m c 2 (there r))) $$ Hd2
  icases Hd2 with ⟨Hp2, Htoks⟩
  ihave Hx := (bigSep_mono' (A := fun r => landPay m c 0 (there r)) (B := fun r => xPt m c (peer c r)) fun r => landed_rows m c r) $$ Hx
  ihave Htoks := (landed_tokens m c) $$ Htoks
  ihave Hkeep := (Entails.of_eq (ownRow_eq m c keepShare).symm) $$ Hkeep
  ihave Ha0 := (show iprop(ownRow m c keepShare ∗ bigSep (Finset.range 7) fun r => ownRow m c (rowShare r)) ⊢ ownRow m c fullShare from
    by unfold ownRow; exact (Transfers.pointsTo_toks_range fullShare 7).2) $$ [Hkeep Htoks]
  · isplitl [Hkeep] <;> iassumption
  ihave Ha0 := (Entails.of_eq (ownRow_eq m c fullShare)) $$ Ha0
  ihave Ha := (Entails.of_eq ((sep_there (rowPt m c fullShare)).symm.trans (rowPt_all m c fullShare))) $$ [Ha0 Hrows]
  · isplitl [Ha0] <;> iassumption
  rw [owed_end]
  iapply Hk
  isplitl [HO]; · iexact HO
  isplitl [Ho]; · iexact Ho
  isplitl [Ha]; · iexists _; iexact Ha
  isplitl [Hx]; · iexact Hx
  isplitl [Hp0]; · iexact Hp0
  isplitl [Hp2] <;> iassumption

/-! ## The whole body -/

theorem regroup3 {α : Type} (p q r : TProg F PUnit) (k : PUnit → TProg F α) :
    (p >>= fun _ => q >>= fun _ => r) >>= k = p >>= fun _ => q >>= fun _ => r >>= k := by
  simp only [Prog.bind_assoc]

theorem wp_onDevice {α : Type} {Q : α → sProp 𝕄} (k : PUnit → TProg F α) :
    iprop(ctx m K ∗ startRes m c) ⊢ iprop((endRes m c -∗ WP c (k ⟨⟩) Q)
      -∗ WP c (onDevice xM (Memref.isWhole_whole _) wM oM gM (Memref.isWhole_whole _) tM bM (Memref.isWhole_whole _) aM cc0_scratch4 cc0_scratch5 cc0_scratch6 cc0_scratch7 cc0_scratch8 c >>= k) Q) := by
  have hp : onDevice (F := F) xM (Memref.isWhole_whole _) wM oM gM (Memref.isWhole_whole _) tM bM (Memref.isWhole_whole _) aM cc0_scratch4 cc0_scratch5 cc0_scratch6 cc0_scratch7 cc0_scratch8 c
      = ((seqF 7 (enter c) >>= fun _ => semWaitWord barrierArr.sem 7#32 >>= fun _ =>
            seqF 7 (sendRows xM (Memref.isWhole_whole _) gM (Memref.isWhole_whole _) cc0_scratch4 cc0_scratch5 c) >>= fun _ =>
            keepRows xM gM (Memref.isWhole_whole _) c) >>= fun _ =>
          ((seqF 5 fun i => fetch wM tM cc0_scratch8 c i.val) >>= fun _ =>
            narrow wM tM bM (Memref.isWhole_whole _) cc0_scratch8 c 0 >>= fun _ =>
            seqF 32 (step xM (Memref.isWhole_whole _) wM oM gM (Memref.isWhole_whole _) tM bM (Memref.isWhole_whole _) cc0_scratch5 cc0_scratch8 c)) >>= fun _ =>
          (localMax oM aM >>= fun _ => seqF 7 (sendMax aM cc0_scratch6 cc0_scratch7 c) >>= fun _ =>
            seqF 7 (awaitMax aM cc0_scratch7) >>= fun _ => readMax aM >>= fun a => seqF 4 (quantise oM a) >>= fun _ =>
            seqF 7 (finish xM (Memref.isWhole_whole _) gM (Memref.isWhole_whole _) aM cc0_scratch4 cc0_scratch6 c))) := by
    unfold onDevice
    simp only [Prog.bind_assoc]
  rw [hp, regroup3]
  unfold startRes tokens places credits scratch wSems
  iintro ⟨#HR, HO, ⟨HtB, Ht0, Ht1, Ht2, Ht3⟩, ⟨HpB, Hp0, Hp1, Hp2, Hp3⟩, ⟨HcB, Hc1, Hc3⟩, ⟨Hg, Ht, Hb, Ha⟩, Hv, Hw, Hx, Ho⟩ Hk
  iapply (wp_opening m K c) $$ [HO HtB Ht0 Ht1 HpB HcB Hg Ha Hx]
  · isplitr; · iexact HR
    isplitl [HO]; · iexact HO
    isplitl [HtB]; · iexact HtB
    isplitl [Ht0]; · iexact Ht0
    isplitl [Ht1]; · iexact Ht1
    isplitl [HpB]; · iexact HpB
    isplitl [HcB]; · iexact HcB
    isplitl [Hg]; · iexact Hg
    isplitl [Ha] <;> iassumption
  iintro ⟨HO, HpB, Hs0, Hg0, Ha0, Hx0, Hrow⟩
  ihave Ht := (bufs_cut c) $$ Ht
  ihave Hi := (idle_make m c) $$ [Ht Hw Hv]
  · isplitl [Ht]; · iexact Ht
    isplitl [Hw] <;> iassumption
  iapply (wp_products m K c) $$ [HO Hi Hb Hg0 Hc1 Hp1 Ho]
  · isplitr; · iexact HR
    isplitl [HO]; · iexact HO
    isplitl [Hi]; · iexact Hi
    isplitl [Hb]; · iexact Hb
    isplitl [Hg0]; · iexact Hg0
    isplitl [Hc1 Hp1]
    · iapply zip2
      isplitl [Hc1] <;> iassumption
    iexact Ho
  iintro ⟨HO, Hi, Hb, Hg, Hp1, ⟨%g, %hg, Ho⟩⟩
  iapply (wp_closing m K c g hg) $$ [HO Ho Ha0 Hrow Ht2 Ht3 Hc3 Hp3 Hs0 Hp0 Hp2]
  · isplitr; · iexact HR
    isplitl [HO]; · iexact HO
    isplitl [Ho]; · iexact Ho
    isplitl [Ha0]; · iexact Ha0
    isplitl [Hrow]; · iexact Hrow
    isplitl [Ht2]; · iexact Ht2
    isplitl [Ht3]; · iexact Ht3
    isplitl [Hc3 Hp3]
    · unfold dueAt
      iapply zip2
      isplitl [Hc3] <;> iassumption
    isplitl [Hs0]; · iexact Hs0
    isplitl [Hp0] <;> iassumption
  iintro ⟨HO, Ho, Ha, Hx, Hp0, Hp2, Hp3⟩
  ihave Hi := (idle_give m c) $$ Hi
  icases Hi with ⟨Ht, Hv⟩
  ihave Ht := (bufs_paste c (m _)) $$ Ht
  ihave Hg := ((show (bigSep Finset.univ fun j => slotFull m c j) ⊢ bigSep Finset.univ fun j => slotAny (F := F) c j from
    bigSep_mono fun j _ => slotFull_any m c j).trans (slots_paste c (m _))) $$ Hg
  ihave Hx := (Entails.of_eq (parts_eq m c).symm) $$ [Hx0 Hx]
  · isplitl [Hx0] <;> iassumption
  iapply Hk
  unfold endRes places scratch wSems
  isplitl [HO]; · iexact HO
  isplitl [HpB Hp0 Hp1 Hp2 Hp3]
  · isplitl [HpB]; · iexact HpB
    isplitl [Hp0]; · iexact Hp0
    isplitl [Hp1]; · iexact Hp1
    isplitl [Hp2] <;> iassumption
  isplitl [Hg Ht Hb Ha]
  · isplitl [Hg]; · iexact Hg
    isplitl [Ht]; · iexact Ht
    isplitl [Hb] <;> iassumption
  isplitl [Hv]; · iexact Hv
  isplitl [Hx] <;> iassumption

end Cert.KernelIdeal.Run
end
-- ==== Proof.Run.Deal.lean ====
/- What the launch hands out: the handshakes' ghost state made, and dealt so that each device has the tokens of the
   duties it pays. -/
module

public import proofs.«01_k».proof.Proof.Run.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## A device's semaphores, listed -/

theorem each_mono {ι : Type} [DecidableEq ι] {S : Finset ι} {A B : ι → sProp 𝕄} (h : ∀ i, A i ⊢ B i) : bigSep S A ⊢ bigSep S B := bigSep_mono fun i _ => h i

theorem all_CI : (Finset.univ : Finset CI) = insert none (Finset.univ.image (fun aj : Fin 4 × Fin 8 => some aj)) := by decide +kernel

theorem sep_CI (Φ : CI → sProp 𝕄) :
    bigSep Finset.univ Φ = iprop(Φ none ∗ bigSep Finset.univ fun a : Fin 4 => iprop(Φ (some (a, 0)) ∗ bigSep (Finset.range 7) fun r => Φ (some (a, there r)))) := by
  rw [all_CI, bigSep_insert (by decide +kernel), bigSep_image' (fun _ _ _ _ h => Option.some.inj h), bigSep_univ_prod (fun aj : Fin 4 × Fin 8 => Φ (some aj)),
    bigSep_congr fun (a : Fin 4) _ => sep_there (fun j => Φ (some (a, j)))]
  rfl

theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The round a device's semaphores are at when those with a duty are at `b`. -/
def rAt (b : ℕ) : CI → ℕ
  | none => b
  | some aj => if aj.2 = 0 then 0 else b

/-- A device's places on the semaphores that no one raises. -/
def still : sProp 𝕄 := bigSep Finset.univ fun a : Fin 4 => at_ (cell c a 0) 0

theorem placed (b : ℕ) : (bigSep Finset.univ fun ci : CI => at_ (kcell (c, ci)) (rAt b ci) : sProp 𝕄) ⊣⊢ iprop(places c b ∗ still c) := by
  have h : ∀ a : Fin 4, (iprop(at_ (kcell (c, some (a, 0))) (rAt b (some (a, 0))) ∗ bigSep (Finset.range 7) fun r => at_ (kcell (c, some (a, there r))) (rAt b (some (a, there r)))) : sProp 𝕄)
      = iprop(at_ (cell c a 0) 0 ∗ bigSep (Finset.range 7) fun r => at_ (cell c a (there r)) b) := fun a => by
    rw [show rAt b (some (a, 0)) = 0 from by simp [rAt],
      bigSep_congr fun r hr => by rw [show rAt b (some (a, there r)) = b from if_neg (there_ne_zero (Finset.mem_range.mp hr))]]
    rfl
  rw [sep_CI, bigSep_congr fun a _ => h a, bigSep_sep', sep_four (fun a => bigSep (Finset.range 7) fun r => at_ (cell c a (there r)) b)]
  unfold places still
  rw [show rAt b none = b from rfl]
  constructor
  · iintro ⟨HB, Hz, H0, H1, H2, H3⟩
    isplitr [Hz]
    · isplitl [HB]; · iexact HB
      isplitl [H0]; · iexact H0
      isplitl [H1]; · iexact H1
      isplitl [H2] <;> iassumption
    iexact Hz
  · iintro ⟨⟨HB, H0, H1, H2, H3⟩, Hz⟩
    isplitl [HB]; · iexact HB
    isplitl [Hz]; · iexact Hz
    isplitl [H0]; · iexact H0
    isplitl [H1]; · iexact H1
    isplitl [H2] <;> iassumption

/-- The kernel's own semaphores: the handshakes' and those of its own copies. -/
def osem : (Fin 4 × Fin 8) ⊕ Fin 6 → SemLoc sig
  | .inl aj => .dma (hsem aj.1 aj.2)
  | .inr b => .dma (wsem b)

theorem ownSemFacts : Pipeline.OwnSemFacts cfg0.spec osem := by decide +kernel

theorem unscopedSems0_eq : (unscopedSems0 c : sProp 𝕄) = semVal (barCell c) 0 := by
  unfold unscopedSems0
  rw [bigSep_eq_bigSepL_of_eq [SemLoc.reg barS] (by decide) (by decide)]; rfl

theorem sems_eq :
    (bigSep Finset.univ fun ci : CI => semVal (kcell (c, ci)) 0 : sProp 𝕄)
      = iprop(semVal (barCell c) 0 ∗ bigSep Finset.univ fun aj : Fin 4 × Fin 8 => semVal (kcell (c, some aj)) 0) := by
  rw [all_CI, bigSep_insert (by decide +kernel), bigSep_image' (fun _ _ _ _ h => Option.some.inj h)]; rfl

theorem ownSems0_eq :
    (Pipeline.ownSems0 (Ix := Unit) (Name := ℕ) (U := UU) (Lvl := ℕ) (Val := Elt F) (τ := τ) osem c : sProp 𝕄)
      = iprop((bigSep Finset.univ fun aj : Fin 4 × Fin 8 => semVal (kcell (c, some aj)) 0) ∗ wSems c) := by
  unfold Pipeline.ownSems0 wSems
  exact bigSep_univ_sum _

/-- All of them at zero: what the launch gives, and what the end gives back. -/
theorem semsZero :
    iprop(Pipeline.ownSems0 (Ix := Unit) (Name := ℕ) (U := UU) (Lvl := ℕ) (Val := Elt F) (τ := τ) osem c ∗ unscopedSems0 c : sProp 𝕄)
      ⊣⊢ iprop((bigSep Finset.univ fun ci : CI => semVal (kcell (c, ci)) 0) ∗ wSems c) := by
  rw [ownSems0_eq, unscopedSems0_eq, sems_eq]
  constructor
  · iintro ⟨⟨H, Hw⟩, HB⟩
    isplitr [Hw]
    · isplitl [HB] <;> iassumption
    iexact Hw
  · iintro ⟨⟨HB, H⟩, Hw⟩
    isplitr [HB]
    · isplitl [H] <;> iassumption
    iexact HB

/-! ## The end: every handshake semaphore is back at zero -/

theorem close_one (ci : CI) : iprop(records m K ∗ at_ (kcell (c, ci)) (rAt 1 ci)) ⊢ |={Set.univ}=> (semVal (kcell (c, ci)) 0 : sProp 𝕄) := by
  have hz : ∀ r, rAt 1 ci ≤ r → (Rd m).duties (kcell (c, ci)) r = ∅ := by
    rcases ci with _ | ⟨a, j⟩
    · exact duties_later m _
    · by_cases h : j = 0
      · subst h; exact fun r _ => duties_zero m c a r
      · rw [show rAt 1 (some (a, j)) = 1 from if_neg h]; exact duties_later m _
  iintro ⟨#HR, H⟩
  ihave #HI := (records_inv m K (c, ci)) $$ HR
  iapply (Rounds.cell_close ER (Rd m) (Set.mem_univ (K (c, ci))) (fun h => h) hz)
  isplitr; · iexact HI
  iexact H

theorem close_all : iprop(records m K ∗ places c 1 ∗ still c) ⊢ |={Set.univ}=> (bigSep Finset.univ fun ci : CI => semVal (kcell (c, ci)) 0 : sProp 𝕄) :=
  (sep_mono_right (placed c 1).2).trans ((BI.bigSep_with_persistent fun ci _ => close_one m K c ci).trans (bigSep_fupd _ _))

/-! ## The credits -/

theorem around_back (a : Fin 4) (s : ℕ) (f : Fin 8 → sProp 𝕄) :
    bigSep (Finset.range 7) (fun r => f (back r)) = bigSep (Finset.range 7) fun r => f (there r) := by
  rw [← bigSep_image' back_inj, ← bigSep_image' there_inj, show (Finset.range 7).image back = (Finset.range 7).image there from by decide +kernel]

theorem peer_peer (d : Dev nD) {r : ℕ} (h : r < 7) : peer (peer d r) (6 - r) = d := peer_back d h
theorem peer_peer' (d : Dev nD) {r : ℕ} (h : r < 7) : peer (peer d (6 - r)) r = d := by
  have := peer_back d (r := 6 - r) (by omega)
  rwa [show 6 - (6 - r) = r by omega] at this

theorem seven_units (g : GSem nD τ sig) : (∑ _r ∈ Finset.Ico 0 7, tallyAt g () 1 : CellTallies nD τ sig Unit) = tallyAt g () 7 := by
  funext g'
  refine Finsupp.ext fun u => ?_
  rw [Finset.sum_apply, Finsupp.finset_sum_apply, Finset.sum_congr rfl fun r _ => tallyAt_apply g () 1 g' u, tallyAt_apply]
  split <;> simp

theorem cred_bar : (Pipeline.launchCred (fun d => owedBar d 0) c : sProp 𝕄) ⊢ cred (tallyAt (barCell c) () 7) := by
  unfold owedBar
  rw [Pipeline.launchCred_sum (Finset.Ico 0 7) (fun r d => tallyAt (barCell (peer d r)) () 1) c, ← seven_units, Pipeline.cred_finsetSum]
  exact bigSep_mono fun r hr => Pipeline.launchCred_tallyAt (.reg barS) (fun d => peer d r) (fun d => peer d (6 - r))
    (fun d => peer_peer' d (Finset.mem_Ico.mp hr).2) (fun d => peer_peer d (Finset.mem_Ico.mp hr).2) () 1 c

theorem cred_cells (a : Fin 4) : (Pipeline.launchCred (fun d => owedAt d a 0) c : sProp 𝕄) ⊢ bigSep (Finset.range 7) fun r => cred (tallyAt (cell c a (there r)) () (amt a)) := by
  unfold owedAt
  rw [Pipeline.launchCred_sum (Finset.Ico 0 7) (fun r d => tallyAt (cell (peer d r) a (back r)) () (amt a)) c,
    ← around_back a 0 (fun j => cred (tallyAt (cell c a j) () (amt a))), Finset.range_eq_Ico]
  exact bigSep_mono fun r hr => Pipeline.launchCred_tallyAt (.dma (hsem a (back r))) (fun d => peer d r) (fun d => peer d (6 - r))
    (fun d => peer_peer' d (Finset.mem_Ico.mp hr).2) (fun d => peer_peer d (Finset.mem_Ico.mp hr).2) () (amt a) c

theorem creds : (Pipeline.launchCred (fun d => owed d 0 0 0) c : sProp 𝕄) ⊢ credits c := by
  unfold owed credits
  rw [Pipeline.launchCred_add (fun d => owedBar d 0 + owedAt d 1 0) (fun d => owedAt d 3 0) c, Pipeline.launchCred_add (fun d => owedBar d 0) (fun d => owedAt d 1 0) c]
  iintro ⟨⟨HB, H1⟩, H3⟩
  isplitl [HB]; · iapply (cred_bar c) $$ HB
  isplitl [H1]; · iapply (cred_cells c 1) $$ H1
  iapply (cred_cells c 3) $$ H3

/-! ## The ghost state made -/

theorem kcell_injective : Function.Injective (kcell : Dev nD × CI → GSem nD τ sig) := by
  rintro ⟨c, i⟩ ⟨c', i'⟩ h
  have h1 : c = c' := congrArg (fun g : GSem nD τ sig => g.1.1) h
  have hs : ∀ i i' : CI, csem i = csem i' → i = i' := by decide +kernel
  have h2 : i = i' := hs i i' (congrArg Prod.snd h)
  rw [h1, h2]

def allCells : Finset (GSem nD τ sig) := Finset.univ.map ⟨kcell, kcell_injective⟩

/-- A semaphore's duty, as minted: seven for each, of which the barrier's use all and the others' the first. -/
def tokOf (x : (Dev nD × CI) × Fin 7) : GSem nD τ sig × ℕ × ℕ := (kcell x.1, 0, x.2.val)
theorem tokOf_injective : Function.Injective tokOf := by
  rintro ⟨i, d⟩ ⟨i', d'⟩ h
  have h1 : i = i' := kcell_injective (congrArg Prod.fst h)
  have h2 : d = d' := Fin.ext (congrArg (fun x : GSem nD τ sig × ℕ × ℕ => x.2.2) h)
  rw [h1, h2]
def allToks : Finset (GSem nD τ sig × ℕ × ℕ) := Finset.univ.map ⟨tokOf, tokOf_injective⟩

def u₀ : UU := (initOf (Pipeline.cells cfgs cellOf_inj) (Pipeline.launchToks cfgs cellOf_inj), (initOf allCells allToks, 1))

theorem sep_seven (Φ : ℕ → sProp 𝕄) : (bigSep Finset.univ fun d : Fin 7 => Φ d.val) = bigSep (Finset.range 7) Φ := by
  rw [show Finset.range 7 = Finset.univ.image (fun d : Fin 7 => d.val) from by decide +kernel, bigSep_image' (fun _ _ _ _ h => Fin.ext h)]

/-- The tokens of the duties of device `c`'s own semaphores. -/
def toks : sProp 𝕄 :=
  iprop(bigSep (Finset.range 7) (fun r => dutyTok ER (barCell c) 0 r)
    ∗ bigSep Finset.univ fun a : Fin 4 => bigSep (Finset.range 7) (fun r => dutyTok ER (cell c a (there r)) 0 0))

theorem toks_of_all :
    (bigSep Finset.univ fun ci : CI => bigSep Finset.univ fun d : Fin 7 => dutyTok ER (kcell (c, ci)) 0 d.val : sProp 𝕄) ⊢ toks c := by
  have h : ∀ (a : Fin 4) (j : Fin 8), (bigSep Finset.univ fun d : Fin 7 => dutyTok ER (kcell (c, some (a, j))) 0 d.val : sProp 𝕄) ⊢ dutyTok ER (cell c a j) 0 0 :=
    fun a j => one_of_all (Finset.mem_univ (0 : Fin 7)) (fun d : Fin 7 => dutyTok ER (kcell (c, some (a, j))) 0 d.val)
  have h' : ∀ a : Fin 4, (iprop((bigSep Finset.univ fun d : Fin 7 => dutyTok ER (kcell (c, some (a, 0))) 0 d.val)
        ∗ bigSep (Finset.range 7) fun r => bigSep Finset.univ fun d : Fin 7 => dutyTok ER (kcell (c, some (a, there r))) 0 d.val) : sProp 𝕄)
      ⊢ bigSep (Finset.range 7) (fun r => dutyTok ER (cell c a (there r)) 0 0) := fun a => by
    iintro ⟨-, H⟩
    iapply (each_mono (S := Finset.range 7) (A := fun r => bigSep Finset.univ fun d : Fin 7 => dutyTok ER (kcell (c, some (a, there r))) 0 d.val) (B := fun r => dutyTok ER (cell c a (there r)) 0 0) fun r => h a (there r)) $$ H
  rw [sep_CI]
  unfold toks
  iintro ⟨HB, H⟩
  isplitl [HB]
  · iapply (show (bigSep Finset.univ fun d : Fin 7 => dutyTok ER (kcell (c, none)) 0 d.val : sProp 𝕄) ⊢ bigSep (Finset.range 7) fun d => dutyTok ER (barCell c) 0 d from
      Entails.of_eq (sep_seven fun d => dutyTok ER (barCell c) 0 d)) $$ HB
  iapply (each_mono h') $$ H

/-- What device `c` gets of the ghost state made. -/
def G : sProp 𝕄 :=
  iprop((bigSep Finset.univ fun ci : CI => roundState ER (Rd m) (kcell (c, ci)) 0)
    ∗ (bigSep Finset.univ fun ci : CI => iprop(at_ (kcell (c, ci)) 0 ∗ reached ER (kcell (c, ci)) 0)) ∗ toks c)

theorem fund_handshakes : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ci : CI => Φ (kcell (c, ci)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun ci : CI => bigSep Finset.univ fun d : Fin 7 => dutyTok ER (kcell (c, ci)) 0 d.val := by
    unfold allToks; rw [bigSep_map, bigSep_univ_prod, bigSep_univ_prod]; rfl
  iintro H
  imod (Rounds.fund ER (Rd m) allCells allToks) $$ H with ⟨Hst, Hr, Hat, Htok⟩
  imodintro
  ihave Hst := (Entails.of_eq (hX fun g => roundState ER (Rd m) g 0)) $$ Hst
  ihave Hat := (Entails.of_eq (hX fun g => at_ g 0)) $$ Hat
  ihave Hr := (Entails.of_eq (hX fun g => reached ER g 0)) $$ Hr
  ihave Htok := ((Entails.of_eq hT).trans (each_mono fun c => toks_of_all c)) $$ Htok
  unfold G
  simp only [bigSep_sep']
  isplitl [Hst]; · iexact Hst
  isplitl [Hat Hr]
  · isplitl [Hat] <;> iassumption
  iexact Htok

/-! ## The tokens dealt to those who pay -/

/-- Peer `r` of `c`, and the index `c` has among that peer's peers. -/
def swap (x : Dev nD × Fin 7) : Dev nD × Fin 7 := (peer x.1 x.2.val, ⟨6 - x.2.val, by omega⟩)
theorem swap_swap : Function.Involutive swap := by
  rintro ⟨c, r⟩
  unfold swap
  refine Prod.ext (peer_back c r.isLt) (Fin.ext ?_)
  have := r.isLt
  simp only; omega

theorem around (Φ : Dev nD → ℕ → sProp 𝕄) :
    (bigSep Finset.univ fun c : Dev nD => bigSep (Finset.range 7) fun r => Φ c r)
      = bigSep Finset.univ fun c : Dev nD => bigSep (Finset.range 7) fun r => Φ (peer c r) (6 - r) := by
  have h (Ψ : Dev nD → ℕ → sProp 𝕄) : (bigSep Finset.univ fun c : Dev nD => bigSep (Finset.range 7) fun r => Ψ c r)
      = bigSep Finset.univ fun x : Dev nD × Fin 7 => Ψ x.1 x.2.val := by
    rw [bigSep_univ_prod (fun x : Dev nD × Fin 7 => Ψ x.1 x.2.val)]
    exact bigSep_congr fun c _ => (sep_seven (Ψ c)).symm
  rw [h, h, bigSep_univ_equiv swap_swap.toPerm]
  rfl

theorem toks_around (a : Fin 4) :
    (bigSep Finset.univ fun c : Dev nD => bigSep (Finset.range 7) fun r => dutyTok ER (cell c a (there r)) 0 0 : sProp 𝕄)
      = bigSep Finset.univ fun c : Dev nD => bigSep (Finset.range 7) fun r => dutyTok ER (cell (peer c r) a (back r)) 0 0 :=
  (around fun c r => dutyTok ER (cell c a (there r)) 0 0).trans
    (bigSep_congr fun c _ => bigSep_congr fun r hr => by rw [there_rev (Finset.mem_range.mp hr)])

theorem toks_dealt : (bigSep Finset.univ fun c : Dev nD => (toks c : sProp 𝕄)) ⊢ bigSep Finset.univ fun c : Dev nD => tokens c := by
  have h : ∀ c : Dev nD, (toks c : sProp 𝕄) = iprop(bigSep (Finset.range 7) (fun r => dutyTok ER (barCell c) 0 r)
      ∗ bigSep (Finset.range 7) (fun r => dutyTok ER (cell c 0 (there r)) 0 0) ∗ bigSep (Finset.range 7) (fun r => dutyTok ER (cell c 1 (there r)) 0 0)
      ∗ bigSep (Finset.range 7) (fun r => dutyTok ER (cell c 2 (there r)) 0 0) ∗ bigSep (Finset.range 7) (fun r => dutyTok ER (cell c 3 (there r)) 0 0)) := fun c => by
    unfold toks; rw [sep_four]
  rw [bigSep_congr fun c _ => h c]
  unfold tokens
  simp only [bigSep_sep']
  rw [around fun c r => dutyTok ER (barCell c) 0 r, toks_around 1, toks_around 3]

/-! ## The invariants allocated -/

/-- What a device has of the handshakes once they are set up. -/
def mine : sProp 𝕄 := iprop(places c 0 ∗ still c ∗ tokens c ∗ wSems c)
def G' : sProp 𝕄 := iprop(∃ K, records m K ∗ mine c)

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ci : CI => iprop(∃ κ : ℕ, cellInv ER (Rd m) κ (kcell (c, ci))))
          ∗ (bigSep Finset.univ fun ci : CI => (reached ER (kcell (c, ci)) 0 : sProp 𝕄)) ∗ (places c 0 ∗ still c) ∗ toks c ∗ wSems c) := by
  unfold G
  iintro ⟨Hos, Hus, Hst, Hat, Htok⟩
  ihave Hv := (semsZero c).1 $$ [Hos Hus]
  · isplitl [Hos] <;> iassumption
  icases Hv with ⟨Hv, Hw⟩
  imod (show iprop((bigSep Finset.univ fun ci : CI => semVal (kcell (c, ci)) 0) ∗ bigSep Finset.univ fun ci : CI => roundState ER (Rd m) (kcell (c, ci)) 0)
      ⊢ (|={Set.univ}=> bigSep Finset.univ fun ci : CI => iprop(∃ κ : ℕ, cellInv ER (Rd m) κ (kcell (c, ci))) : sProp 𝕄) from by
        rw [← bigSep_sep']
        exact (bigSep_mono fun ci _ => (Rounds.body_intro ER (Rd m) (kcell (c, ci))).trans inv_alloc).trans (bigSep_fupd _ _)) $$ [Hv Hst] with Hinv
  · isplitl [Hv] <;> iassumption
  imodintro
  isplitl [Hinv]; · iexact Hinv
  ihave Hat := (Entails.of_eq (bigSep_sep' Finset.univ (fun ci : CI => (at_ (kcell (c, ci)) 0 : sProp 𝕄)) (fun ci => reached ER (kcell (c, ci)) 0))) $$ Hat
  icases Hat with ⟨Hat, Hr⟩
  isplitl [Hr]; · iexact Hr
  isplitl [Hat]
  · iapply ((show (bigSep Finset.univ fun ci : CI => at_ (kcell (c, ci)) 0 : sProp 𝕄) ⊢ bigSep Finset.univ fun ci : CI => at_ (kcell (c, ci)) (rAt 0 ci) from
      Entails.of_eq (bigSep_congr fun ci _ => by rw [show rAt 0 ci = 0 from by unfold rAt; split <;> simp])).trans (placed c 0).1) $$ Hat
  isplitl [Htok] <;> iassumption

theorem G'_intro : iprop(records m K ∗ mine c) ⊢ G' m c := by
  unfold G'
  iintro H
  iexists K
  iexact H

theorem regroup :
    (bigSep Finset.univ fun c : Dev nD => iprop((bigSep Finset.univ fun ci : CI => iprop(∃ κ : ℕ, cellInv ER (Rd m) κ (kcell (c, ci))))
          ∗ (bigSep Finset.univ fun ci : CI => (reached ER (kcell (c, ci)) 0 : sProp 𝕄)) ∗ (places c 0 ∗ still c) ∗ toks c ∗ wSems c) : sProp 𝕄)
      ⊢ bigSep Finset.univ (G' m) := by
  simp only [bigSep_sep']
  rw [← bigSep_univ_prod (fun x : Dev nD × CI => iprop(∃ κ : ℕ, cellInv ER (Rd m) κ (kcell x))),
    ← bigSep_univ_prod (fun x : Dev nD × CI => (reached ER (kcell x) 0 : sProp 𝕄))]
  iintro ⟨HI, #HR, ⟨Hp, Hz⟩, Htok, Hw⟩
  ihave HK := (BI.bigSep_exists_pi Finset.univ (fun (x : Dev nD × CI) (κ : ℕ) => (cellInv ER (Rd m) κ (kcell x) : sProp 𝕄))) $$ HI
  icases HK with ⟨%K, #HI⟩
  ihave Htok := (toks_dealt (F := F)) $$ Htok
  iapply (BI.bigSep_with_persistent (R := records m K) fun c _ => G'_intro m K c)
  isplitr
  · unfold records
    isplitl; · iexact HI
    iexact HR
  unfold mine
  simp only [bigSep_sep']
  isplitl [Hp]; · iexact Hp
  isplitl [Hz]; · iexact Hz
  isplitl [Htok] <;> iassumption

theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.KernelIdeal.Run
end
-- ==== Proof.Run.Launch.lean ====
/- The launch on eight devices: the whole program run from any memory with its semaphores at zero. -/
module

public import proofs.«01_k».proof.Proof.Run.Deal
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## What the launch is told of the kernel -/

/-- What the body has at entry besides its scratch and its staged blocks. -/
def start : sProp 𝕄 :=
  iprop(G' m c ∗ credits c ∗ levAts L lv ∗ ((c : Thread nD τ).loc main_arg1 ↦{fullShare.left} wts m c))
def before₀ : sProp 𝕄 := iprop(start m c ∗ scratch c)
/-- What it leaves: the scratch, and every semaphore back at zero. -/
def after₀ : sProp 𝕄 :=
  iprop(scratch c ∗ Pipeline.ownSems0 (Ix := Unit) (Name := ℕ) (U := UU) (Lvl := ℕ) (Val := Elt F) (τ := τ) osem c ∗ unscopedSems0 c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => before₀ m c
    | ⟨_ + 1, _⟩ => after₀ c
  q _ := fullShare
  owed t := match t with
    | ⟨0, _⟩ => owed c 0 0 0
    | ⟨_ + 1, _⟩ => 0

/-- A staged block at the contents `X`. -/
def staged (b : Ref sig .tc) (X : b.ty.Contents (Elt F)) : sProp 𝕄 :=
  iprop(∃ f : Buf (Elt F) ((c : Thread nD τ).loc b), ⌜f = X⌝ ∗ ((c : Thread nD τ).loc b ↦{fullShare} f))

theorem staged_eq (b : Ref sig .tc) (X : b.ty.Contents (Elt F)) :
    (owns (Ix := Unit) (Name := ℕ) (U := UU) (Lvl := ℕ) (c : Thread nD τ) (Memref.whole b) fullShare X : sProp 𝕄) = staged c b X := by
  unfold owns staged; simp only [Memref.view_whole, View.read_whole, View.set_whole]

theorem sep_windows (Φ : Fin cfg0.W → sProp 𝕄) : bigSep Finset.univ Φ = iprop(Φ (0 : Fin 2) ∗ Φ (1 : Fin 2)) := bigSep_W0 Φ

/-! ## The body, from what the launch gives it to what it must leave -/

def entering : sProp 𝕄 :=
  iprop(before₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
def leaving : sProp 𝕄 :=
  iprop(after₀ c ∗ (dats m 0 c).owesAt () t0_0.succ ∗ staged c cc0_stg0_0 (xstg m c) ∗ staged c cc0_stg1_0 (outAt m c))

theorem arrive : entering m c ⊢ iprop(∃ K, ctx m K ∗ startRes m c ∗ still c) := by
  unfold entering before₀ start G' mine ctx startRes debt Dat.owesAt Pipeline.owesWithin
  iintro ⟨⟨⟨⟨%K, #HR, Hp, Hz, Ht, Hw⟩, Hc, #HL, Hv⟩, Hs⟩, ⟨%W, %hW, HO⟩, ⟨%d0, Hx⟩, ⟨%d1, Ho⟩⟩
  unfold staged
  icases Hx with ⟨%g0, %hg0, Hx⟩
  icases Ho with ⟨%g1, %hg1, Ho⟩
  have hx : g0 = xstg m c := by rw [hg0]; unfold Dat.before; rw [if_pos (fetch0_0 t0_0)]; rfl
  subst hx
  iexists K
  isplitr
  · isplitl; · iexact HR
    iexact HL
  isplitr [Hz]
  · isplitl [HO]
    · iexists W; iexact HO
    isplitl [Ht]; · iexact Ht
    isplitl [Hp]; · iexact Hp
    isplitl [Hc]; · iexact Hc
    isplitl [Hs]; · iexact Hs
    isplitl [Hw]; · iexact Hw
    isplitl [Hv]; · iexact Hv
    isplitl [Hx]; · iexact Hx
    unfold someOn
    iexists g1
    iexact Ho
  iexact Hz

theorem done : iprop(ctx m K ∗ endRes m c ∗ still c) ⊢ |={Set.univ}=> leaving m c := by
  unfold ctx endRes debt leaving after₀ staged Dat.owesAt Pipeline.owesWithin
  iintro ⟨⟨#HR, #HL⟩, ⟨⟨%W, HO⟩, Hp, Hs, Hw, Hx, Ho⟩, Hz⟩
  imod (close_all m K c) $$ [Hp Hz] with Hv
  · isplitr; · iexact HR
    isplitl [Hp] <;> iassumption
  imodintro
  ihave Hv := (semsZero c).2 $$ [Hv Hw]
  · isplitl [Hv] <;> iassumption
  icases Hv with ⟨Hos, Hus⟩
  isplitl [Hs Hos Hus]
  · isplitl [Hs]; · iexact Hs
    isplitl [Hos] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem wp_end (P : sProp 𝕄) : iprop(|={Set.univ}=> P) ⊢ WP c (.ret ⟨⟩ : TProg F PUnit) (fun _ => P) := by
  show _ ⊢ wp frame (wpE (defs₀ (F := F)) 𝒱₀ (c : Thread nD τ) none) Set.univ (.ret ⟨⟩ : TProg F PUnit) (fun _ => P)
  rw [wp_ret]

theorem sound : entering m c ⊢ WP c
    (cc0_body (F := F) (Memref.whole cc0_stg0_0) (Memref.isWhole_whole _) (Memref.whole main_arg1) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8) (fun _ => leaving m c) := by
  rw [body_eq]
  simp only [Prog.lift, Prog.bind_op, Prog.bind_ret, wp_deviceId]
  iintro H
  ihave H := (arrive m c) $$ H
  icases H with ⟨%K, #HR, Hs, Hz⟩
  rw [show onDevice (F := F) xM (Memref.isWhole_whole _) wM oM gM (Memref.isWhole_whole _) tM bM (Memref.isWhole_whole _) aM cc0_scratch4 cc0_scratch5 cc0_scratch6 cc0_scratch7 cc0_scratch8 c
      = (onDevice (F := F) xM (Memref.isWhole_whole _) wM oM gM (Memref.isWhole_whole _) tM bM (Memref.isWhole_whole _) aM cc0_scratch4 cc0_scratch5 cc0_scratch6 cc0_scratch7 cc0_scratch8 c >>= fun u => .ret u)
    from (Prog.bind_pure _).symm]
  iapply (wp_onDevice m K c (fun u => .ret u)) $$ [Hs]
  · isplitr; · iexact HR
    iexact Hs
  iintro He
  iapply (wp_end c (leaving m c))
  iapply (done m K c)
  isplitr; · iexact HR
  isplitl [He] <;> iassumption

set_option maxRecDepth 65536 in
theorem obligation : BodyObligation (dats (F := F) m 0 c) (defs₀ (F := F)) 𝒱₀ () Set.univ := fun t => by
  rw [fin_N0 t, sep_windows, sep_windows]
  simp only [staged_eq]
  exact sound m c

/-! ## The conditions of the launch -/

theorem share_full (w : Fin cfg0.W) : (dats m 0 c).share w = fullShare := by unfold Dat.share; split <;> rfl

theorem waits : (levAts L lv : sProp 𝕄) ⊢ Pipeline.cellsWaits cfgs (dats m) () 0 c :=
  Pipeline.cellsWaits_intro cfgs (dats m) () 0 c fun w s t => by
    have h : lvAt (.dma (((cfgs 0).win w).sem s)) = 0 := by revert w s; decide +kernel
    rcases t with ⟨_ | _, ht⟩
    · exact mayWait_zero c _ h 0 0 0
    · exact (show (levAts L lv : sProp 𝕄) ⊢ MayWait (c : Thread nD τ) _ () 0 by rw [MayWait_zero]; iintro -; iempintro)

/-- The half of the weights the body does not use. -/
def kept : sProp 𝕄 := (c : Thread nD τ).loc main_arg1 ↦{fullShare.right} wts m c

theorem halves {ℓ : Loc nD τ sig} (f : Buf (Elt F) ℓ) : (ℓ ↦{fullShare} f : sProp 𝕄) ⊢ iprop((ℓ ↦{fullShare.left} f) ∗ ℓ ↦{fullShare.right} f) :=
  (pointsTo_share (PosShare.mem_left_op_right fullShare)).1

theorem start_intro :
    iprop(Pipeline.unscopedRestP Pipeline.Prefetch.none cfg0.spec c (fun b => m ((c : Thread nD τ).loc b)) ∗ levAts L lv
        ∗ Pipeline.launchCred (fun d => owed d 0 0 0) c ∗ prngReg c (ρ c) ∗ G' m c)
      ⊢ |={Set.univ}=> iprop(start m c ∗ kept m c) := by
  rw [Pipeline.unscopedRestP_none, show (unscopedRest cfg0.spec c (fun b => m ((c : Thread nD τ).loc b)) : sProp 𝕄) = _ from unscopedRest0_eq c _]
  iintro ⟨Hv, HL, Hc, -, HG⟩
  ihave Hv := (halves (wts m c)) $$ Hv
  icases Hv with ⟨Hl, Hr⟩
  imodintro
  unfold start kept
  isplitr [Hr]
  · isplitl [HG]; · iexact HG
    isplitl [Hc]; · iapply (creds c) $$ Hc
    isplitl [HL] <;> iassumption
  iexact Hr

theorem enter_body :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ scratch someOn
  iintro ⟨Hs, -, Hr⟩
  isplitl [Hs]; · iexact Hs
  iexact Hr

theorem leave_body :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scopedRest0_eq]
  unfold after₀ scratch someOn
  iintro ⟨Hr, Ho, Hu⟩
  isplitl [Hu]; · iexact Hu
  isplitl [Ho]; · iexact Ho
  iexact Hr

/-! ## The final contents -/

theorem final_in : (dats m 0 c).arrAt (0 : Fin 2) cfg0.N = m ((c : Thread nD τ).loc main_arg0) :=
  (dats (F := F) m 0 c).arrAt_in (0 : Fin 2) rfl _

theorem final_out : (dats m 0 c).arrAt (1 : Fin 2) cfg0.N = outAt m c := by
  rw [show cfg0.N = t0_0.val + 1 from rfl, (dats m 0 c).arrAt_succ (1 : Fin 2) t0_0, flush0_1, if_pos rfl]
  have h0 : (fun a => (win0_1.index t0_0) a * main_v1.ty.shape.size a) = fun _ => 0 := funext fun a => by fin_cases a <;> decide
  exact Memref.write_access_unit_zero_univ (Elt F) main_v1 h0 (fun a => by fin_cases a <;> decide) _ (outAt m c)

/-- What is read of a device at the end besides its windows' arrays. -/
def alsoAt (c : Dev nD) (s : MemSt nD τ sig (Elt F)) : Prop :=
  (∀ sm : SemLoc sig, sm.isScoped .tc = false → s.sem ((c.tc : Thread nD τ), sm) = 0) ∧ s.mem ((c : Thread nD τ).loc main_arg1) = wts m c

theorem read_end (s : Phys nD τ sig (Elt F)) : iprop(unscopedSems0 c ∗ kept m c ∗ SI s) ⊢ |={Set.univ}=> iprop(⌜alsoAt m c s.mem⌝ ∗ (SI s : sProp 𝕄)) := by
  unfold kept alsoAt
  iintro ⟨Hu, Hv, HS⟩
  imod (Pipeline.unscopedSems0_read (X := unscopedSems0 c) (c := c) fupd_intro s) $$ [Hu HS] with ⟨%hu, HS⟩
  · isplitl [Hu] <;> iassumption
  icombine HS Hv gives %h
  imodintro
  isplitr
  · ipureintro; exact ⟨hu, Buf.eq_of_forall_mem_univ h⟩
  iexact HS

set_option maxRecDepth 65536 in
/-- From any memory, with every semaphore at zero, every fair run ends, with each device's result `outAt`, its arguments
    as they were, and every semaphore at zero again. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := fun d => owed d 0 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod ((Entails.of_eq (congrArg BI.own (show embR (initOf allCells allToks, (1 : Counters)) = (ER : Emb UB 𝕄) (initOf allCells allToks) from rfl))).trans (fund_handshakes m)) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := enter_body m) (hout := leave_body m)
    (QY := alsoAt m) (hY := read_end m)
    (hQ := fun _ h hs => ⟨fun c => ⟨((h c).1 (1 : Fin 2)).trans (final_out m c), ((h c).1 (0 : Fin 2)).trans (final_in m c), (h c).2.2.2⟩,
      sem_eq_zero hs fun c => (h c).2.2.1⟩)

end Cert.KernelIdeal.Run
end
-- ==== Proof.Frames.lean ====
/- The three programs run, leave their arguments as they were and every semaphore at zero. -/
module

public import proofs.«01_k».proof.Defs
public import proofs.«01_k».proof.Proof.Gen.Kernel
public import proofs.«01_k».proof.Proof.Run.Launch
public import proofs.«01_k».proof.Proof.Gen.ReferenceIdeal.Run
public import Idealize.ShloMosaic.Lib.Quiescent

@[expose] public section

noncomputable section

namespace Cert.Frames

open Idealize.ShloMosaic Idealize.SL.Sem
open Cert.KernelIdeal.Run (run_main)

/-- The run's statement with the results dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (run_main m ρ)

theorem frame_ideal : Cert.quiescent_KernelIdeal := fun m ρ _ => frame_any (F := Ideal) m ρ

/-- The two kernels have one text: their tables of bodies agree, label by label. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl
  | ⟨_ + 1, h⟩, _ => exact absurd h (Nat.not_lt.2 (Nat.le_add_left _ _))

theorem tables_eq : Cert.Kernel.defs (F := Bits) = Cert.KernelIdeal.defs (F := Bits) := by
  unfold Cert.Kernel.defs Cert.KernelIdeal.defs
  exact congrArg (Pipeline.defs _) bodies_eq

/-- So the run at machine floats is the first program's. -/
theorem frame_kernel : Cert.quiescent_Kernel := fun m ρ _ => by
  rw [tables_eq]
  exact frame_any (F := Bits) m ρ

theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.Frames
end
-- ==== Proof.Values.Product.lean ====
/- What the blocks add up to: device c's block of columns n, after its eight terms, is the product's. -/
module

public import proofs.«01_k».proof.Proof.Run.Sched
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.Values

open Cert.KernelIdeal Cert.KernelIdeal.Gen Cert.KernelIdeal.Run
open Idealize.ShloMosaic Idealize.ShloMosaic.ValueIdx Idealize.ShloMosaic.TcCoe
open Idealize.SL.Sem
open scoped BigOperators

/-- The two arrays as one device would hold them. -/
abbrev XArr : Type := (⟨2, ![4096, 4096]⟩ : Shape).Idx → EReal
abbrev WArr : Type := (⟨2, ![4096, 8192]⟩ : Shape).Idx → EReal

/-- The product at row `r`, column `l`, and the part of it over the columns of `X` that device `d` holds. -/
def prod (X : XArr) (W : WArr) (r : Fin 4096) (l : Fin 8192) : EReal := ∑ k : Fin 4096, X (ix2 r k) * W (ix2 k l)
def term (X : XArr) (W : WArr) (r : Fin 4096) (l : Fin 8192) (d : Fin 8) : EReal :=
  ∑ q : Fin 512, X (ix2 r ⟨512 * d.val + q.val, by omega⟩) * W (ix2 ⟨512 * d.val + q.val, by omega⟩ l)

theorem sum_terms (X : XArr) (W : WArr) (r : Fin 4096) (l : Fin 8192) : ∑ d : Fin 8, term X W r l d = prod X W r l := by
  unfold term prod
  rw [← Fintype.sum_prod_type' (fun (d : Fin 8) (q : Fin 512) =>
    X (ix2 r ⟨512 * d.val + q.val, by omega⟩) * W (ix2 ⟨512 * d.val + q.val, by omega⟩ l))]
  refine Fintype.sum_equiv (finProdFinEquiv : Fin 8 × Fin 512 ≃ Fin (8 * 512)) _ _ fun p => ?_
  have e : (⟨512 * p.1.val + p.2.val, by omega⟩ : Fin 4096) = (finProdFinEquiv p : Fin (8 * 512)) := Fin.ext (by
    show 512 * p.1.val + p.2.val = p.2.val + 512 * p.1.val; omega)
  rw [e]

variable (m : (ℓ : Loc nD τ sig) → Buf (Elt Ideal) ℓ) (c : Dev nD)

/-- The staged block is the argument. -/
theorem xstg_eq (r : Fin 4096) (q : Fin 512) : xstg m c (ix2 r q) = m ((c : Thread nD τ).loc main_arg0) (ix2 r q) := by
  unfold xstg
  rw [View.read_apply]
  refine congrArg (m ((c : Thread nD τ).loc main_arg0)) ?_
  funext a
  fin_cases a
  · exact Fin.ext (by show 0 + 1 * r.val = r.val; omega)
  · exact Fin.ext (by show 0 + 1 * q.val = q.val; omega)

/-- A product of two blocks that came squeezed, at an index. -/
theorem block_product (A : FVec Ideal S512x512 .bf16) (B : FVec Ideal S512x2048 .bf16) (r : Fin 512) (l : Fin 2048) :
    (matmul (φ₁ := .bf16) (φ₂ := .bf16) dot_S512x512_S512x2048_S512x2048_1_0_0_1_n_n none A B (constant S512x2048 .f32 0x00000000#32) : FVec Ideal S512x2048 .f32) (ix2 r l)
      = ∑ q : Fin 512, A (ix2 r q) * B (ix2 q l) := by
  have h := Ideal.matmul_plain_apply (M := 512) (K := 512) (N := 2048) none A B (constant S512x2048 .f32 0x00000000#32) r l
  rw [constant_apply, Ideal.ofBits_zero_f32, zero_add] at h
  exact h

variable (X : XArr) (W : WArr)

/-- Device `c`'s arguments are its part of the arrays. -/
structure Dealt : Prop where
  x : ∀ (c : Dev nD) (r : Fin 4096) (q : Fin 512),
    m ((c : Thread nD τ).loc main_arg0) (ix2 r q) = X (ix2 r ⟨512 * c.val + q.val, by have := c.isLt; change c.val < 8 at this; omega⟩)
  w : ∀ (c : Dev nD) (k : Fin 4096) (l : Fin 8192), m ((c : Thread nD τ).loc main_arg1) (ix2 k l) = W (ix2 k l)

variable {m X W}

/-- Row `r` of device `c`'s rows, column `l` of its block of columns `n`, in the whole product. -/
abbrev rowOf (c : Dev nD) (r : Fin 512) : Fin 4096 := ⟨512 * c.val + r.val, by have := c.isLt; change c.val < 8 at this; omega⟩
abbrev colAt (n : Fin 4) (l : Fin 2048) : Fin 8192 := ⟨2048 * n.val + l.val, by omega⟩

theorem rows_at (h : Dealt m X W) (d : Dev nD) (r q : Fin 512) :
    rows c (xstg m d) (ix2 r q) = X (ix2 (rowOf c r) ⟨512 * d.val + q.val, by have := d.isLt; change d.val < 8 at this; omega⟩) := by
  unfold rows
  rw [View.read_apply]
  have e : (xM.access (rectP c)).emb (ix2 r q) = ix2 (rowOf c r) q := by
    funext a
    fin_cases a
    · exact Fin.ext (by show 512 * c.val + 1 * r.val = 512 * c.val + r.val; omega)
    · exact Fin.ext (by show 0 + 1 * q.val = q.val; omega)
  exact (congrArg (xstg m d) e).trans ((xstg_eq m d _ _).trans (h.x d _ _))

theorem wtile_at (h : Dealt m X W) (i : ℕ) (q : Fin 512) (l : Fin 2048) :
    wtile m c i (ix2 q l) = W (ix2 ⟨512 * (from_ c (slotOf i)).val + q.val, by have := (from_ c (slotOf i)).isLt; change _ < 8 at this; omega⟩ (colAt (colOf i) l)) := by
  unfold wtile
  rw [View.read_apply]
  have hw := wOff_eq c (colOf i) (slotOf i)
  have e : (wM.access (rectW c (colOf i) (slotOf i))).emb (ix2 q l)
      = ix2 ⟨512 * (from_ c (slotOf i)).val + q.val, by have := (from_ c (slotOf i)).isLt; change _ < 8 at this; omega⟩ (colAt (colOf i) l) := by
    funext a
    fin_cases a
    · refine Fin.ext ?_
      show wOff c (colOf i) (slotOf i) 0 + 1 * q.val = 512 * (from_ c (slotOf i)).val + q.val
      rw [hw]; show 512 * (from_ c (slotOf i)).val + 1 * q.val = _; omega
    · refine Fin.ext ?_
      show wOff c (colOf i) (slotOf i) 1 + 1 * l.val = 2048 * (colOf i).val + l.val
      rw [hw]; show 2048 * (colOf i).val + 1 * l.val = _; omega
  exact (congrArg (wts m c) e).trans (h.w c _ _)

/-- The term that step `i` adds. -/
theorem step_term (h : Dealt m X W) (i : ℕ) (r : Fin 512) (l : Fin 2048) :
    (matmul (φ₁ := .bf16) (φ₂ := .bf16) dot_S512x512_S512x2048_S512x2048_1_0_0_1_n_n none (shapeCast S512x512 (xv m c (slotOf i)) shapeCasts_S1x512x512_S512x512)
      (shapeCast S512x2048 (nv m c i) shapeCasts_S1x512x2048_S512x2048) (constant S512x2048 .f32 0x00000000#32) : FVec Ideal S512x2048 .f32) (ix2 r l)
      = term X W (rowOf c r) (colAt (colOf i) l) (from_ c (slotOf i)) := by
  unfold xv nv k0_pay2 wv
  rw [shapeCast_shapeCast, shapeCast_shapeCast, shapeCast_shapeCast, block_product]
  unfold term
  refine Finset.sum_congr rfl fun q _ => ?_
  rw [rows_at c h, truncf_apply, wtile_at c h]

theorem yv_at (h : Dealt m X W) (n : ℕ) (r : Fin 512) (l : Fin 2048) : ∀ k : ℕ,
    yv m c n k (ix2 r l) = ∑ j ∈ Finset.range (k + 1), term X W (rowOf c r) (colAt (colOf (4 * j + n)) l) (from_ c (slotOf (4 * j + n)))
  | 0 => by
    rw [Finset.sum_range_one, mul_zero, zero_add]
    exact step_term c h n r l
  | k + 1 => by
    rw [Finset.sum_range_succ, ← yv_at h n r l k, ← step_term c h]
    show (k0_pay78 _ _ _ : FVec Ideal S512x2048 .f32) (ix2 r l) = _
    unfold k0_pay78
    rw [shapeCast_self]
    rfl

/-- The eight slots are the eight devices. -/
theorem round_bijective : ∀ c : Dev nD, Function.Bijective fun j : Fin 8 => (from_ c (slotOf (4 * j.val)) : Fin 8) := by
  decide +kernel

theorem yv_eq (h : Dealt m X W) (n : Fin 4) (r : Fin 512) (l : Fin 2048) :
    yv m c n.val 7 (ix2 r l) = prod X W (rowOf c r) (colAt n l) := by
  rw [yv_at c h, ← sum_terms, Finset.sum_range]
  refine Fintype.sum_bijective _ (round_bijective c) _ _ fun j => ?_
  have e1 : colOf (4 * j.val + n.val) = n := Fin.ext (by unfold colOf; simp only; omega)
  have e2 : slotOf (4 * j.val + n.val) = slotOf (4 * j.val) := Fin.ext (by unfold slotOf; simp only; omega)
  rw [e1, e2]

end Cert.Values
end
-- ==== Proof.Values.Quant.lean ====
/- The quantiser at one element: times 127 / a, or over a / 127, for the largest magnitude a. -/
module

public import Idealize.ShloMosaic.PureOps.Ideal.Laws
public import Idealize.ShloMosaic.Lib.IdealHost

@[expose] public section

noncomputable section

namespace Cert.Values

open Idealize.ShloMosaic

/-- The three words the two programs name: 127, its negative, and the bottom a maximum starts from. -/
theorem word_hi : Ideal.ofBits .f32 0x42FE0000#32 = ((127 : ℝ) : EReal) := by
  simp [Ideal.ofBits, Ideal.ieee, -EReal.coe_mul]; norm_num
theorem word_bot : Ideal.ofBits .f32 0xFF800000#32 = ⊥ := by
  simp [Ideal.ofBits, Ideal.ieee]

/-- An element clipped after rounding. -/
def clip (y : EReal) : EReal :=
  min (Ideal.ofBits .f32 0x42FE0000#32) (max (Ideal.ofBits .f32 0xC2FE0000#32) (Ideal.liftRound Ideal.roundHalfEven y))

/-- The largest magnitude over 127, and 127 over it. -/
abbrev up (a : EReal) : EReal := Ideal.div a (Ideal.ofBits .f32 0x42FE0000#32)
abbrev down (a : EReal) : EReal := Ideal.div (Ideal.ofBits .f32 0x42FE0000#32) a

/-- Scaling by 127 / a and dividing by a / 127 quantise alike, wherever the magnitude is at most `a`: at `a = 0`
    both products are 0, at the infinite `a` both quotients are. -/
theorem quant_eq {y a : EReal} (h : max y (-y) ≤ a) : clip (y * down a) * up a = clip (Ideal.div y (up a)) * up a := by
  have h127 : ((127 : ℝ) : EReal) ≠ 0 := by simp
  have hup : up a = a * ((127 : ℝ) : EReal)⁻¹ := by
    unfold up Ideal.div; rw [word_hi, if_neg h127]
  have h0 : 0 ≤ a := by
    rcases le_total 0 y with hy | hy
    · exact hy.trans ((le_max_left _ _).trans h)
    · exact (EReal.neg_nonneg.2 hy).trans ((le_max_right _ _).trans h)
  induction a using EReal.rec with
  | bot => simp at h0
  | top =>
    have hd : down ⊤ = 0 := by unfold down Ideal.div; rw [if_neg (by simp), EReal.inv_top, mul_zero]
    have hu : up ⊤ = ⊤ := by
      rw [hup, ← EReal.coe_inv]; exact EReal.top_mul_coe_of_pos (by norm_num)
    rw [hd, hu, mul_zero]
    unfold Ideal.div
    rw [if_neg (by simp), EReal.inv_top, mul_zero]
  | coe a =>
    rcases eq_or_ne a 0 with rfl | ha
    · have : up ((0 : ℝ) : EReal) = 0 := by rw [hup, EReal.coe_zero, zero_mul]
      rw [this, mul_zero, mul_zero]
    · have hne : up (a : EReal) ≠ 0 := by
        rw [hup, ← EReal.coe_inv, ← EReal.coe_mul]
        exact_mod_cast mul_ne_zero ha (by norm_num)
      have hd : down (a : EReal) = (up (a : EReal))⁻¹ := by
        rw [hup]; unfold down Ideal.div
        rw [if_neg (by exact_mod_cast ha), word_hi, ← EReal.coe_inv, ← EReal.coe_mul, ← EReal.coe_inv, ← EReal.coe_mul, ← EReal.coe_inv]
        congr 1; field_simp
      rw [hd]
      congr 2
      unfold Ideal.div
      rw [if_neg hne]

end Cert.Values
end
-- ==== Proof.Values.Largest.lean ====
/- The largest magnitudes: each device's, and the largest of the eight, are bounded by what bounds the product. -/
module

public import proofs.«01_k».proof.Proof.Values.Product
public import Idealize.ShloMosaic.PureOps.Reduce
public import proofs.«01_k».proof.Proof.Values.Quant

@[expose] public section

noncomputable section

namespace Cert.Values

open Cert.KernelIdeal Cert.KernelIdeal.Gen Cert.KernelIdeal.Run
open Idealize.ShloMosaic Idealize.ShloMosaic.ValueIdx Idealize.ShloMosaic.TcCoe
open Idealize.SL.Sem
open scoped BigOperators

/-- A maximum over every index, from the bottom, is at most `b` exactly where each element is. -/
theorem largest_le {s t : Shape} {axes : List (Fin s.rank)} (v : FVec Ideal s .f32) (h : s.Reduces axes t) (hφ : FKind.Formats .f32)
    (ha : (0xFF800000#32 : BitVec 32) = FKind.maximumf.neutral .f32 hφ) (ht : ∀ a, t.size a = 1) (j : t.Idx) (b : EReal) :
    (multiReduction .maximumf axes t v 0xFF800000#32 h hφ ha j : EReal) ≤ b ↔ ∀ i, v i ≤ b := by
  rw [multiReduction_maximumf_eq_fold]
  have hall : ∀ i, h.drop i = j := fun i => funext fun a => Fin.ext (by
    have h1 := (h.drop i a).isLt; have h2 := (j a).isLt; have h3 := ht a; omega)
  refine (Finset.fold_max_le (β := EReal) (f := v) (b := Ideal.ofBits .f32 0xFF800000#32) b).trans ?_
  rw [word_bot]
  exact ⟨fun H i => H.2 i (Finset.mem_filter.2 ⟨Finset.mem_univ _, hall i⟩), fun H => ⟨bot_le, fun i _ => H i⟩⟩

/-- The largest magnitude of a block. -/
def topOf (y : Vec Ideal S512x2048 .f32) : EReal :=
  extractAt ![0, 0, 0] (shapeCast S1x1x1 (multiReduction .maximumf [1, 2] S1
    (shapeCast S1x512x2048 (absf (F := Ideal) (φ := .f32) y) shapeCasts_S512x2048_S1x512x2048) 0xFF800000#32 reduces_S1x512x2048_S1 (.inl rfl) rfl)
    shapeCasts_S1_S1x1x1) inpos_S1x1x1_p0_0_0

/-- A bound on every element does not mind a leading axis of one. -/
theorem unit_le {n0 n1 : ℕ} (v : (⟨2, ![n0, n1]⟩ : Shape).Idx → EReal) (h : (⟨2, ![n0, n1]⟩ : Shape).ShapeCasts ⟨3, ![1, n0, n1]⟩) (b : EReal) :
    (∀ i, shapeCast ⟨3, ![1, n0, n1]⟩ v h i ≤ b) ↔ ∀ (r : Fin n0) (l : Fin n1), v (ix2 r l) ≤ b := by
  have e : ∀ i, shapeCast ⟨3, ![1, n0, n1]⟩ v h i = v (fun a => i a.succ) := fun i => shapeCast_addUnit_apply ![n0, n1] v h i
  constructor
  · intro H r l
    have := H (ix3 0 r l)
    rw [e] at this
    refine le_of_eq_of_le (congrArg v (funext fun a => ?_)) this
    match a with
    | ⟨0, _⟩ => rfl
    | ⟨1, _⟩ => rfl
  · intro H i
    rw [e]
    refine le_of_eq_of_le (congrArg v (funext fun a => ?_)) (H (i 1) (i 2))
    match a with
    | ⟨0, _⟩ => rfl
    | ⟨1, _⟩ => rfl

theorem topOf_le (y : Vec Ideal S512x2048 .f32) (b : EReal) :
    topOf y ≤ b ↔ ∀ (r : Fin 512) (l : Fin 2048), max (y (ix2 r l)) (-y (ix2 r l)) ≤ b := by
  have h1 := largest_le (shapeCast S1x512x2048 (absf (F := Ideal) (φ := .f32) y) shapeCasts_S512x2048_S1x512x2048) reduces_S1x512x2048_S1
    (.inl rfl) rfl (by decide) (Shape.reshapeEquiv shapeCasts_S1_S1x1x1 fun a => ⟨(![0, 0, 0] : Fin 3 → Nat) a, inpos_S1x1x1_p0_0_0 a⟩) b
  have h2 := unit_le (absf (F := Ideal) (φ := .f32) y) shapeCasts_S512x2048_S1x512x2048 b
  unfold topOf extractAt
  unfold shapeCast at h1 ⊢
  refine h1.trans ?_
  unfold shapeCast at h2
  exact h2

/-- The first two blocks' largest magnitudes and nothing below zero; then the other two's. -/
theorem first_tops (y0 y1 : Vec Ideal S512x2048 .f32) :
    k0_pay79 y0 y1 = Scalar.maximumf (F := Ideal) (Scalar.maximumf (F := Ideal) (Scalar.ofBits (F := Ideal) .f32 0x00000000#32) (topOf y0)) (topOf y1) := by
  unfold k0_pay79
  rw [shapeCast_self, shapeCast_self]
  rfl

theorem last_tops (s : Ideal .f32) (y2 y3 : Vec Ideal S512x2048 .f32) (i : S1x128.Idx) :
    k0_pay80 s y2 y3 i = Scalar.maximumf (F := Ideal) (Scalar.maximumf (F := Ideal) s (topOf y2)) (topOf y3) := by
  unfold k0_pay80
  rw [shapeCast_self, shapeCast_self]
  unfold topOf
  unfold shapeCast broadcast
  rfl

theorem word_zero : (Scalar.ofBits (F := Ideal) .f32 0x00000000#32 : Ideal .f32) = (0 : EReal) := Ideal.ofBits_zero_f32

variable {m : (ℓ : Loc nD τ sig) → Buf (Elt Ideal) ℓ} (c : Dev nD) {X : XArr} {W : WArr}

/-- All four together. -/
theorem row_of_tops (y0 y1 y2 y3 : Vec Ideal S512x2048 .f32) (i : S1x128.Idx) :
    k0_pay80 (k0_pay79 y0 y1) y2 y3 i = max (max (max (max (0 : EReal) (topOf y0)) (topOf y1)) (topOf y2)) (topOf y3) := by
  rw [last_tops, first_tops, word_zero, Ideal.scalar_maximumf_def, Ideal.scalar_maximumf_def, Ideal.scalar_maximumf_def, Ideal.scalar_maximumf_def]

/-- A block of columns' largest magnitude. -/
def blockTop (m : (ℓ : Loc nD τ sig) → Buf (Elt Ideal) ℓ) (c : Dev nD) (n : ℕ) : EReal := topOf (yv m c n 7)

/-- Device `c`'s own largest magnitude, wherever it is read. -/
theorem lmax_eq (i : S1x128.Idx) :
    lmax m c i = max (max (max (max 0 (blockTop m c 0)) (blockTop m c 1)) (blockTop m c 2)) (blockTop m c 3) := by
  unfold lmax blockTop
  exact row_of_tops (yv m c 0 7) (yv m c 1 7) (yv m c 2 7) (yv m c 3 7) i

/-- Four numbers and zero, all at most `b`. -/
theorem max_four (t : ℕ → EReal) (b : EReal) :
    max (max (max (max 0 (t 0)) (t 1)) (t 2)) (t 3) ≤ b ↔ 0 ≤ b ∧ ∀ n : Fin 4, t n.val ≤ b := by
  rw [max_le_iff, max_le_iff, max_le_iff, max_le_iff]
  constructor
  · rintro ⟨⟨⟨⟨h0, k0⟩, k1⟩, k2⟩, k3⟩
    refine ⟨h0, fun n => ?_⟩
    match n with
    | 0 => exact k0
    | 1 => exact k1
    | 2 => exact k2
    | 3 => exact k3
  · rintro ⟨h0, H⟩
    exact ⟨⟨⟨⟨h0, H 0⟩, H 1⟩, H 2⟩, H 3⟩

theorem lmax_le (h : Dealt m X W) (a : Fin 1) (k : Fin 128) (b : EReal) :
    lmax m c (ix2 a k) ≤ b ↔ 0 ≤ b ∧ ∀ (r : Fin 512) (l : Fin 8192), max (prod X W (rowOf c r) l) (-prod X W (rowOf c r) l) ≤ b := by
  have key : ∀ n : Fin 4, blockTop m c n.val ≤ b ↔
      ∀ (r : Fin 512) (l : Fin 2048), max (prod X W (rowOf c r) (colAt n l)) (-prod X W (rowOf c r) (colAt n l)) ≤ b := fun n => by
    unfold blockTop
    rw [topOf_le]
    refine forall_congr' fun r => forall_congr' fun l => ?_
    rw [yv_eq c h]
  rw [lmax_eq, max_four (blockTop m c)]
  refine and_congr_right fun _ => ⟨fun H r l => ?_, fun H n => (key n).2 fun r l => H r _⟩
  have := (key ⟨l.val / 2048, by omega⟩).1 (H _) r ⟨l.val % 2048, Nat.mod_lt _ (by decide)⟩
  have e : colAt ⟨l.val / 2048, by omega⟩ ⟨l.val % 2048, Nat.mod_lt _ (by decide)⟩ = l :=
    Fin.ext (by show 2048 * (l.val / 2048) + l.val % 2048 = l.val; omega)
  rwa [e] at this

/-- The largest over a table of eight rows. -/
theorem table_le (A : Vec Ideal S8x128 .f32) (b : EReal) : k0_pay81 A ≤ b ↔ ∀ (j : Fin 8) (k : Fin 128), A (ix2 j k) ≤ b := by
  have h1 := largest_le (shapeCast S1x8x128 (show FVec Ideal S8x128 .f32 from A) shapeCasts_S8x128_S1x8x128) reduces_S1x8x128_S1
    (.inl rfl) rfl (by decide) (Shape.reshapeEquiv shapeCasts_S1_S1x1x1 fun a => ⟨(![0, 0, 0] : Fin 3 → Nat) a, inpos_S1x1x1_p0_0_0 a⟩) b
  have h2 := unit_le A shapeCasts_S8x128_S1x8x128 b
  unfold k0_pay81 extractAt
  unfold shapeCast at h1 ⊢
  refine h1.trans ?_
  unfold shapeCast at h2
  exact h2

/-- Every device is somewhere on the circle. -/
theorem circle_covers : ∀ c d : Dev nD, ∃ j : Fin 8, from_ c j = d := by decide +kernel

/-- The largest of the eight. -/
theorem amax_le (h : Dealt m X W) (b : EReal) :
    k0_pay81 (amaxAll m c) ≤ b ↔ 0 ≤ b ∧ ∀ (r : Fin 4096) (l : Fin 8192), max (prod X W r l) (-prod X W r l) ≤ b := by
  refine (table_le _ b).trans ⟨fun H => ?_, fun H j k => ?_⟩
  · have at_ : ∀ j : Fin 8, lmax m (from_ c j) (ix2 0 0) ≤ b := fun j => H j 0
    refine ⟨((lmax_le (from_ c 0) h 0 0 b).1 (at_ 0)).1, fun r l => ?_⟩
    obtain ⟨j, hj⟩ := circle_covers c (⟨r.val / 512, by omega⟩ : Fin 8)
    have := ((lmax_le (from_ c j) h 0 0 b).1 (at_ j)).2 ⟨r.val % 512, Nat.mod_lt _ (by decide)⟩ l
    have e : rowOf (from_ c j) ⟨r.val % 512, Nat.mod_lt _ (by decide)⟩ = r := by
      rw [hj]; exact Fin.ext (by show 512 * (r.val / 512) + r.val % 512 = r.val; omega)
    rwa [e] at this
  · exact (lmax_le (from_ c j) h 0 k b).2 ⟨H.1, fun r l => H.2 _ l⟩

end Cert.Values
end
-- ==== Proof.Values.Reference.lean ====
/- The reference read at an index: its product, its largest magnitude, and its quantised element. -/
module

public import proofs.«01_k».proof.Proof.Gen.ReferenceIdeal
public import proofs.«01_k».proof.Proof.Values.Product
public import proofs.«01_k».proof.Proof.Values.Quant
public import Idealize.ShloMosaic.Lib.KernelVsHost
public import Idealize.ShloMosaic.PureOps.Reduce

@[expose] public section

noncomputable section

namespace Cert.Values

open Cert.ReferenceIdeal Cert.ReferenceIdeal.Gen
open Idealize.ShloMosaic Idealize.ShloMosaic.ValueIdx
open Idealize.SL.Sem
open scoped BigOperators

variable (X : FVec Ideal Cert.ReferenceIdeal.S4096x4096 .bf16) (W : FVec Ideal Cert.ReferenceIdeal.S4096x8192 .f32)

/-- The reference's product, its largest magnitude, and its scale. -/
def refProd : FVec Ideal Cert.ReferenceIdeal.S4096x8192 .f32 :=
  Host.dotGeneral dot_S4096x4096_S4096x8192_S4096x8192_1_0_0_1_n_n none (extf .f32 X bitsLt_bf16_f32) W
def refTop (Y : FVec Ideal Cert.ReferenceIdeal.S4096x8192 .f32) : FVec Ideal Cert.ReferenceIdeal.S_ .f32 :=
  Host.reduce FloatOps.maximumf (Host.absf Y) (constant S_ .f32 0xFF800000#32) reducesTo_S4096x8192_S_d0_1 h_S_
def refScale (Y : FVec Ideal Cert.ReferenceIdeal.S4096x8192 .f32) : FVec Ideal Cert.ReferenceIdeal.S4096x8192 .f32 :=
  broadcastInDim S4096x8192 ![] bcast_S_S4096x8192 (Host.divf (refTop Y) (constant S_ .f32 0x42FE0000#32))

/-- Its result, of the product. -/
def refOut (Y : FVec Ideal Cert.ReferenceIdeal.S4096x8192 .f32) : FVec Ideal Cert.ReferenceIdeal.S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf Y (refScale Y))))) (refScale Y)

theorem refProd_at (r : Fin 4096) (l : Fin 8192) : refProd X W (ix2 r l) = prod X W r l := by
  have h := Ideal.matmul_plain_apply (M := 4096) (K := 4096) (N := 8192) none (extf .f32 X bitsLt_bf16_f32) W (constant S4096x8192 .f32 0x00000000#32) r l
  rw [constant_apply, Ideal.ofBits_zero_f32, zero_add] at h
  unfold refProd
  rw [← matmul_zero_eq_dotGeneral]
  exact h

theorem refTop_le (Y : FVec Ideal Cert.ReferenceIdeal.S4096x8192 .f32) (b : EReal) :
    refTop Y ix0 ≤ b ↔ ∀ (r : Fin 4096) (l : Fin 8192), max (Y (ix2 r l)) (-Y (ix2 r l)) ≤ b := by
  unfold refTop
  rw [Host.reduce_eq_fold, constant_apply, word_bot]
  refine (Finset.fold_max_le (β := EReal) (f := Host.absf Y) (b := ⊥) b).trans ⟨fun H r l => ?_, fun H => ⟨bot_le, fun i _ => ?_⟩⟩
  · exact H.2 (ix2 r l) (Finset.mem_filter.2 ⟨Finset.mem_univ _, funext fun a => a.elim0⟩)
  · rw [eq_ix2 i]
    exact H (i 0) (i 1)

theorem refScale_at (Y : FVec Ideal Cert.ReferenceIdeal.S4096x8192 .f32) (i : Cert.ReferenceIdeal.S4096x8192.Idx) :
    refScale Y i = up (refTop Y ix0) := by
  unfold refScale
  exact broadcastInDim_scalar_apply bcast_S_S4096x8192 _ i

theorem refOut_at (Y : FVec Ideal Cert.ReferenceIdeal.S4096x8192 .f32) (i : Cert.ReferenceIdeal.S4096x8192.Idx) :
    refOut Y i = clip (Ideal.div (Y i) (up (refTop Y ix0))) * up (refTop Y ix0) := by
  unfold refOut
  rw [mulf_apply, minimumf_apply, maximumf_apply, refScale_at]
  unfold clip
  rw [← refScale_at Y i]
  rfl

end Cert.Values
end
-- ==== Proof.Values.Result.lean ====
/- Device c's result is block c of the reference's rows. -/
module

public import proofs.«01_k».proof.Defs
public import proofs.«01_k».proof.Proof.Values.Largest
public import proofs.«01_k».proof.Proof.Values.Reference
public import proofs.«01_k».proof.Proof.Run.Launch
public import proofs.«01_k».proof.Proof.Gen.ReferenceIdeal.Run
public import Idealize.ShloMosaic.Lib.Layout

@[expose] public section

noncomputable section

namespace Cert.Values

open Cert.KernelIdeal Cert.KernelIdeal.Gen Cert.KernelIdeal.Run
open Idealize.ShloMosaic Idealize.ShloMosaic.ValueIdx Idealize.ShloMosaic.TcCoe
open Idealize.SL.Sem
open scoped BigOperators

/-- The quantiser's block, an element at a time. -/
theorem quantised_at (A : Vec Ideal S8x128 .f32) (y : Vec Ideal S512x2048 .f32) (i : S512x2048.Idx) :
    k0_pay84 A y i = clip (y i * down (k0_pay81 A)) * up (k0_pay81 A) := by
  unfold k0_pay84 k0_pay83 k0_pay82
  rw [shapeCast_self]
  generalize k0_pay81 A = t
  rw [mulf_apply, minimumf_apply, maximumf_apply]
  unfold clip
  rfl

variable {m : (ℓ : Loc nD τ sig) → Buf (Elt Ideal) ℓ} (c : Dev nD) {X : XArr} {W : WArr}

/-- The kernel's largest magnitude is the reference's: the one has a zero among what it compares, and a magnitude
    is never below that. -/
theorem amax_eq (h : Dealt m X W) : k0_pay81 (amaxAll m c) = refTop (refProd X W) ix0 := by
  refine eq_of_forall_ge_iff fun b => ?_
  rw [amax_le c h, refTop_le]
  have e : ∀ r l, refProd X W (ix2 r l) = prod X W r l := refProd_at X W
  simp only [e]
  refine ⟨fun H => H.2, fun H => ⟨?_, H⟩⟩
  refine le_trans ?_ (H 0 0)
  rcases le_total 0 (prod X W 0 0) with hp | hp
  · exact hp.trans (le_max_left _ _)
  · exact (EReal.neg_nonneg.2 hp).trans (le_max_right _ _)

theorem out_at (h : Dealt m X W) (r : Fin 512) (l : Fin 8192) :
    outAt m c (ix2 r l) = refOut (refProd X W) (ix2 (rowOf c r) l) := by
  have hy : yv m c (l.val / 2048) 7 (ix2 r ⟨l.val % 2048, Nat.mod_lt _ (by decide)⟩) = refProd X W (ix2 (rowOf c r) l) := by
    have := yv_eq c h ⟨l.val / 2048, by omega⟩ r ⟨l.val % 2048, Nat.mod_lt _ (by decide)⟩
    have e : colAt ⟨l.val / 2048, by omega⟩ ⟨l.val % 2048, Nat.mod_lt _ (by decide)⟩ = l :=
      Fin.ext (by show 2048 * (l.val / 2048) + l.val % 2048 = l.val; omega)
    rw [e] at this
    exact this.trans (refProd_at X W _ _).symm
  unfold outAt qTile
  refine (quantised_at _ _ _).trans ?_
  rw [refOut_at, amax_eq c h]
  refine Eq.trans ?_ (quant_eq ((refTop_le _ _).1 le_rfl (rowOf c r) l))
  exact congrArg (fun y => clip (y * down (refTop (refProd X W) ix0)) * up (refTop (refProd X W) ix0)) hy

/-- The two programs agree over the reals. -/
theorem agree : Cert.algebraic_KernelIdeal_ReferenceIdeal := fun m g m' g' _ hdealt => by
  have h : Dealt m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := by
    refine ⟨fun c r q => ?_, fun c k l => congrFun (hdealt c).2 _⟩
    refine ((congrFun (hdealt c).1 (ix2 r q)).trans (Layout.block_apply _ _ _ _)).trans
      (congrArg (m' (((0 : Dev Cert.ReferenceIdeal.nD).tc : Thread Cert.ReferenceIdeal.nD Cert.ReferenceIdeal.τ).loc Cert.ReferenceIdeal.main_arg0))
        (funext fun a => Fin.ext ?_))
    match a with
    | ⟨0, _⟩ => rfl
    | ⟨1, _⟩ => show c.val * 512 + q.val = 512 * c.val + q.val; omega
  refine ⟨refOut (refProd _ _), (θ_run _ _ _).mono (fun r hr c => ⟨((hr.1 c).1).trans (funext fun i => ?_), (hr.1 c).2⟩) (run_main m g),
    (θ_run _ _ _).mono (fun r hr => hr 0) (Cert.ReferenceIdeal.Value.run m' g')⟩
  refine (congrArg (outAt m c) (eq_ix2 i)).trans ((out_at c h (i 0) (i 1)).trans ?_)
  refine congrArg (refOut (refProd _ _)) (funext fun a => Fin.ext ?_)
  match a with
  | ⟨0, _⟩ => show 512 * c.val + (i 0).val = c.val * 512 + (i 0).val; omega
  | ⟨1, _⟩ => rfl

end Cert.Values
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Values.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.frame_kernel, Cert.Frames.frame_ideal, Cert.Frames.frame_reference, trivial, Cert.Values.agree⟩

end Cert.Proof

end
